-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_routing [hPre_finite_routing : Cert.Pre_finite_routing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routing [hPre_finite_routing : Cert.Pre_finite_routing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_routing [hKernelIdeal : Cert.KernelIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_routing [hReferenceIdeal : Cert.ReferenceIdeal.Facts] [hPre_finite_routing : Cert.Pre_finite_routing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_routing [hKernelIdeal : Cert.KernelIdeal.Facts] [hReferenceIdeal : Cert.ReferenceIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v285) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_routing : Cert.Pre_finite_routing.Facts),
    quiescent_Kernel (hKernel := hKernel)
    ∧ quiescent_KernelIdeal (hKernelIdeal := hKernelIdeal)
    ∧ quiescent_KernelIdeal_pre_finite_routing (hKernelIdeal := hKernelIdeal) (hPre_finite_routing := hPre_finite_routing)
    ∧ quiescent_ReferenceIdeal (hReferenceIdeal := hReferenceIdeal)
    ∧ quiescent_ReferenceIdeal_pre_finite_routing (hReferenceIdeal := hReferenceIdeal) (hPre_finite_routing := hPre_finite_routing)
    ∧ preserves_Kernel_KernelIdeal
    ∧ algebraic_KernelIdeal_ReferenceIdeal_pre_finite_routing (hKernelIdeal := hKernelIdeal) (hReferenceIdeal := hReferenceIdeal) (hPre_finite_routing := hPre_finite_routing)
-- ==== Pre_finite_routing.lean ====
abbrev S2x2048x2048 : Shape := ⟨3, ![2, 2048, 2048]⟩
abbrev S8x2048 : Shape := ⟨2, ![8, 2048]⟩
abbrev S8x4096x2048 : Shape := ⟨3, ![8, 4096, 2048]⟩
abbrev S8x4096 : Shape := ⟨2, ![8, 4096]⟩
abbrev S8x1024x4096 : Shape := ⟨3, ![8, 1024, 4096]⟩
abbrev S8x1024 : Shape := ⟨2, ![8, 1024]⟩
abbrev S4096x2048 : Shape := ⟨2, ![4096, 2048]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S2x2048x2048 .f32) (main_arg1 : FVec F S8x2048 .f32) (main_arg2 : FVec F S8x4096x2048 .f32) (main_arg3 : FVec F S8x4096 .f32) (main_arg4 : FVec F S8x1024x4096 .f32) (main_arg5 : FVec F S8x1024 .f32) (main_arg6 : FVec F S4096x2048 .f32) (main_arg7 : FVec F S4096 .f32) (main_arg8 : FVec F S1024x4096 .f32) (main_arg9 : FVec F S1024 .f32) (main_arg10 : FVec F S1024 .f32) (main_arg11 : FVec F S1024 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  main_v8
-- ==== Kernel.lean ====
abbrev S2x2048x2048 : Shape := ⟨3, ![2, 2048, 2048]⟩
abbrev S8x2048 : Shape := ⟨2, ![8, 2048]⟩
abbrev S8x4096x2048 : Shape := ⟨3, ![8, 4096, 2048]⟩
abbrev S8x4096 : Shape := ⟨2, ![8, 4096]⟩
abbrev S8x1024x4096 : Shape := ⟨3, ![8, 1024, 4096]⟩
abbrev S8x1024 : Shape := ⟨2, ![8, 1024]⟩
abbrev S4096x2048 : Shape := ⟨2, ![4096, 2048]⟩
abbrev S4096 : Shape := ⟨1, ![4096]⟩
abbrev S1024x4096 : Shape := ⟨2, ![1024, 4096]⟩
abbrev S1024 : Shape := ⟨1, ![1024]⟩
abbrev S4096x8 : Shape := ⟨2, ![4096, 8]⟩
abbrev S1024x2048 : Shape := ⟨2, ![1024, 2048]⟩
abbrev S1024x8 : Shape := ⟨2, ![1024, 8]⟩
abbrev S1024x1 : Shape := ⟨2, ![1024, 1]⟩
abbrev S64x1x512 : Shape := ⟨3, ![64, 1, 512]⟩
abbrev S8x1x1024 : Shape := ⟨3, ![8, 1, 1024]⟩
abbrev S4096x1024 : Shape := ⟨2, ![4096, 1024]⟩
abbrev S1x512x2048 : Shape := ⟨3, ![1, 512, 2048]⟩
abbrev S1x1x512 : Shape := ⟨3, ![1, 1, 512]⟩
abbrev S1x1024x512 : Shape := ⟨3, ![1, 1024, 512]⟩
abbrev S1x1x1024 : Shape := ⟨3, ![1, 1, 1024]⟩
abbrev S1024x1024 : Shape := ⟨2, ![1024, 1024]⟩
abbrev S512x2048 : Shape := ⟨2, ![512, 2048]⟩
abbrev S1024x512 : Shape := ⟨2, ![1024, 512]⟩
abbrev S1x512 : Shape := ⟨2, ![1, 512]⟩
abbrev S1x1024 : Shape := ⟨2, ![1, 1024]⟩
abbrev S1x4096 : Shape := ⟨2, ![1, 4096]⟩
abbrev S2x2048x1024 : Shape := ⟨3, ![2, 2048, 1024]⟩

abbrev nBuf : Space → Nat
  | .hbm => 24
  | .vmem => 38
  | .smem => 0
  | _ => 0

abbrev bufTy : (tb : Table) → Fin (tcTables nBuf tb) → BufTy
  | .hbm, ⟨0, _⟩ => ⟨S2x2048x2048, .f32⟩
  | .hbm, ⟨1, _⟩ => ⟨S8x2048, .f32⟩
  | .hbm, ⟨2, _⟩ => ⟨S8x4096x2048, .f32⟩
  | .hbm, ⟨3, _⟩ => ⟨S8x4096, .f32⟩
  | .hbm, ⟨4, _⟩ => ⟨S8x1024x4096, .f32⟩
  | .hbm, ⟨5, _⟩ => ⟨S8x1024, .f32⟩
  | .hbm, ⟨6, _⟩ => ⟨S4096x2048, .f32⟩
  | .hbm, ⟨7, _⟩ => ⟨S4096, .f32⟩
  | .hbm, ⟨8, _⟩ => ⟨S1024x4096, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S4096x2048, .f32⟩
  | .hbm, ⟨13, _⟩ => ⟨S4096x8, .f32⟩
  | .hbm, ⟨14, _⟩ => ⟨S64x1x512, .f32⟩
  | .hbm, ⟨15, _⟩ => ⟨S8x1x1024, .f32⟩
  | .hbm, ⟨16, _⟩ => ⟨S4096x1024, .f32⟩
  | .hbm, ⟨17, _⟩ => ⟨S1x4096, .f32⟩
  | .hbm, ⟨18, _⟩ => ⟨S1x1024, .f32⟩
  | .hbm, ⟨19, _⟩ => ⟨S4096x1024, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S2x2048x1024, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S1024x8, .f32⟩
  | .local _ .vmem, ⟨4, _⟩ => ⟨S1024x8, .f32⟩
  | .local _ .vmem, ⟨5, _⟩ => ⟨S1024x2048, .f32⟩
  | .local _ .vmem, ⟨6, _⟩ => ⟨S1024x2048, .f32⟩
  | .local _ .vmem, ⟨7, _⟩ => ⟨S1x512x2048, .f32⟩
  | .local _ .vmem, ⟨8, _⟩ => ⟨S1x512x2048, .f32⟩
  | .local _ .vmem, ⟨9, _⟩ => ⟨S1x1x512, .f32⟩
  | .local _ .vmem, ⟨10, _⟩ => ⟨S1x1x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1x1024, .f32⟩
  | .local _ .vmem, ⟨14, _⟩ => ⟨S1x1x1024, .f32⟩
  | .local _ .vmem, ⟨15, _⟩ => ⟨S1024x8, .f32⟩
  | .local _ .vmem, ⟨16, _⟩ => ⟨S1024x8, .f32⟩
  | .local _ .vmem, ⟨17, _⟩ => ⟨S1024x1024, .f32⟩
  | .local _ .vmem, ⟨18, _⟩ => ⟨S1024x1024, .f32⟩
  | .local _ .vmem, ⟨19, _⟩ => ⟨S1024x2048, .f32⟩
  | .local _ .vmem, ⟨20, _⟩ => ⟨S1024x2048, .f32⟩
  | .local _ .vmem, ⟨21, _⟩ => ⟨S512x2048, .f32⟩
  | .local _ .vmem, ⟨22, _⟩ => ⟨S512x2048, .f32⟩
  | .local _ .vmem, ⟨23, _⟩ => ⟨S1x512, .f32⟩
  | .local _ .vmem, ⟨24, _⟩ => ⟨S1x512, .f32⟩
  | .local _ .vmem, ⟨25, _⟩ => ⟨S1024x512, .f32⟩
  | .local _ .vmem, ⟨26, _⟩ => ⟨S1024x512, .f32⟩
  | .local _ .vmem, ⟨27, _⟩ => ⟨S1x1024, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | .local _ .vmem, ⟨34, _⟩ => ⟨S1x1024, .f32⟩
  | .local _ .vmem, ⟨35, _⟩ => ⟨S1x1024, .f32⟩
  | .local _ .vmem, ⟨36, _⟩ => ⟨S1024x1024, .f32⟩
  | .local _ .vmem, ⟨37, _⟩ => ⟨S1024x1024, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1x512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1x1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1024x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== ReferenceIdeal.lean ====
abbrev S2x2048x2048 : Shape := ⟨3, ![2, 2048, 2048]⟩
abbrev S8x2048 : Shape := ⟨2, ![8, 2048]⟩
abbrev S8x4096x2048 : Shape := ⟨3, ![8, 4096, 2048]⟩
abbrev S8x4096 : Shape := ⟨2, ![8, 4096]⟩
abbrev S8x1024x4096 : Shape := ⟨3, ![8, 1024, 4096]⟩
abbrev S8x1024 : Shape := ⟨2, ![8, 1024]⟩
abbrev S4096x2048 : Shape := ⟨2, ![4096, 2048]⟩
abbrev S4096 : Shape := ⟨1, ![4096]⟩
abbrev S1024x4096 : Shape := ⟨2, ![1024, 4096]⟩
abbrev S1024 : Shape := ⟨1, ![1024]⟩
abbrev S2048x8 : Shape := ⟨2, ![2048, 8]⟩
abbrev S4096x8 : Shape := ⟨2, ![4096, 8]⟩
abbrev S_ : Shape := ⟨0, ![]⟩
abbrev S4096x1 : Shape := ⟨2, ![4096, 1]⟩
abbrev S4096x2 : Shape := ⟨2, ![4096, 2]⟩
abbrev S4096x2x1 : Shape := ⟨3, ![4096, 2, 1]⟩
abbrev S1x1x8 : Shape := ⟨3, ![1, 1, 8]⟩
abbrev S4096x2x8 : Shape := ⟨3, ![4096, 2, 8]⟩
abbrev S4096x1024 : Shape := ⟨2, ![4096, 1024]⟩
abbrev S1x4096x2048 : Shape := ⟨3, ![1, 4096, 2048]⟩
abbrev S2048x4096 : Shape := ⟨2, ![2048, 4096]⟩
abbrev S4096x4096 : Shape := ⟨2, ![4096, 4096]⟩
abbrev S1x4096 : Shape := ⟨2, ![1, 4096]⟩
abbrev S1x1024x4096 : Shape := ⟨3, ![1, 1024, 4096]⟩
abbrev S1x1024 : Shape := ⟨2, ![1, 1024]⟩
abbrev S2x2048x1024 : Shape := ⟨3, ![2, 2048, 1024]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 354
  | .vmem => 0
  | .smem => 0
  | _ => 0

abbrev hbmTy0_0 (i : Nat) : BufTy := match i % 128 with
  | 0 => ⟨S2x2048x2048, .f32⟩
  | 1 => ⟨S8x2048, .f32⟩
  | 2 => ⟨S8x4096x2048, .f32⟩
  | 3 => ⟨S8x4096, .f32⟩
  | 4 => ⟨S8x1024x4096, .f32⟩
  | 5 => ⟨S8x1024, .f32⟩
  | 6 => ⟨S4096x2048, .f32⟩
  | 7 => ⟨S4096, .f32⟩
  | 8 => ⟨S1024x4096, .f32⟩
  | 9 => ⟨S1024, .f32⟩
  | 10 => ⟨S1024, .f32⟩
  | 11 => ⟨S1024, .f32⟩
  | 12 => ⟨S4096x2048, .f32⟩
  | 13 => ⟨S2048x8, .f32⟩
  | 14 => ⟨S4096x8, .f32⟩
  | 15 => ⟨S_, .f32⟩
  | 16 => ⟨S4096, .f32⟩
  | 17 => ⟨S_, .f32⟩
  | 18 => ⟨S4096, .f32⟩
  | 19 => ⟨S4096, .f32⟩
  | 20 => ⟨S4096x1, .f32⟩
  | 21 => ⟨S4096x8, .f32⟩
  | 22 => ⟨S4096x8, .f32⟩
  | 23 => ⟨S4096x8, .f32⟩
  | 24 => ⟨S_, .f32⟩
  | 25 => ⟨S4096, .f32⟩
  | 26 => ⟨S4096x1, .f32⟩
  | 27 => ⟨S4096x8, .f32⟩
  | 28 => ⟨S4096x8, .f32⟩
  | 29 => ⟨S4096x2, .f32⟩
  | 30 => ⟨S4096x2, .i32⟩
  | 31 => ⟨S_, .f32⟩
  | 32 => ⟨S4096x2, .f32⟩
  | 33 => ⟨S4096x2, .f32⟩
  | 34 => ⟨S4096x2x1, .f32⟩
  | 35 => ⟨S4096x2x1, .i32⟩
  | 36 => ⟨S1x1x8, .i32⟩
  | 37 => ⟨S4096x2x8, .i32⟩
  | 38 => ⟨S4096x2x8, .i32⟩
  | 39 => ⟨S4096x2x8, .i1⟩
  | 40 => ⟨S4096x2x8, .f32⟩
  | 41 => ⟨S4096x2x8, .f32⟩
  | 42 => ⟨S4096x2x8, .f32⟩
  | 43 => ⟨S_, .f32⟩
  | 44 => ⟨S4096x8, .f32⟩
  | 45 => ⟨S_, .f32⟩
  | 46 => ⟨S4096x1024, .f32⟩
  | 47 => ⟨S1x4096x2048, .f32⟩
  | 48 => ⟨S4096x2048, .f32⟩
  | 49 => ⟨S2048x4096, .f32⟩
  | 50 => ⟨S4096x4096, .f32⟩
  | 51 => ⟨S1x4096, .f32⟩
  | 52 => ⟨S4096, .f32⟩
  | 53 => ⟨S1x4096, .f32⟩
  | 54 => ⟨S4096x4096, .f32⟩
  | 55 => ⟨S4096x4096, .f32⟩
  | 56 => ⟨S_, .f32⟩
  | 57 => ⟨S4096x4096, .f32⟩
  | 58 => ⟨S4096x4096, .f32⟩
  | 59 => ⟨S4096x4096, .f32⟩
  | 60 => ⟨S_, .f32⟩
  | 61 => ⟨S4096x4096, .f32⟩
  | 62 => ⟨S4096x4096, .f32⟩
  | 63 => ⟨S4096x4096, .f32⟩
  | 64 => ⟨S4096x4096, .f32⟩
  | 65 => ⟨S1x1024x4096, .f32⟩
  | 66 => ⟨S1024x4096, .f32⟩
  | 67 => ⟨S4096x1024, .f32⟩
  | 68 => ⟨S4096x1024, .f32⟩
  | 69 => ⟨S1x1024, .f32⟩
  | 70 => ⟨S1024, .f32⟩
  | 71 => ⟨S1x1024, .f32⟩
  | 72 => ⟨S4096x1024, .f32⟩
  | 73 => ⟨S4096x1024, .f32⟩
  | 74 => ⟨S4096x1, .f32⟩
  | 75 => ⟨S4096x1024, .f32⟩
  | 76 => ⟨S4096x1024, .f32⟩
  | 77 => ⟨S4096x1024, .f32⟩
  | 78 => ⟨S1x4096x2048, .f32⟩
  | 79 => ⟨S4096x2048, .f32⟩
  | 80 => ⟨S2048x4096, .f32⟩
  | 81 => ⟨S4096x4096, .f32⟩
  | 82 => ⟨S1x4096, .f32⟩
  | 83 => ⟨S4096, .f32⟩
  | 84 => ⟨S1x4096, .f32⟩
  | 85 => ⟨S4096x4096, .f32⟩
  | 86 => ⟨S4096x4096, .f32⟩
  | 87 => ⟨S_, .f32⟩
  | 88 => ⟨S4096x4096, .f32⟩
  | 89 => ⟨S4096x4096, .f32⟩
  | 90 => ⟨S4096x4096, .f32⟩
  | 91 => ⟨S_, .f32⟩
  | 92 => ⟨S4096x4096, .f32⟩
  | 93 => ⟨S4096x4096, .f32⟩
  | 94 => ⟨S4096x4096, .f32⟩
  | 95 => ⟨S4096x4096, .f32⟩
  | 96 => ⟨S1x1024x4096, .f32⟩
  | 97 => ⟨S1024x4096, .f32⟩
  | 98 => ⟨S4096x1024, .f32⟩
  | 99 => ⟨S4096x1024, .f32⟩
  | 100 => ⟨S1x1024, .f32⟩
  | 101 => ⟨S1024, .f32⟩
  | 102 => ⟨S1x1024, .f32⟩
  | 103 => ⟨S4096x1024, .f32⟩
  | 104 => ⟨S4096x1024, .f32⟩
  | 105 => ⟨S4096x1, .f32⟩
  | 106 => ⟨S4096x1024, .f32⟩
  | 107 => ⟨S4096x1024, .f32⟩
  | 108 => ⟨S4096x1024, .f32⟩
  | 109 => ⟨S1x4096x2048, .f32⟩
  | 110 => ⟨S4096x2048, .f32⟩
  | 111 => ⟨S2048x4096, .f32⟩
  | 112 => ⟨S4096x4096, .f32⟩
  | 113 => ⟨S1x4096, .f32⟩
  | 114 => ⟨S4096, .f32⟩
  | 115 => ⟨S1x4096, .f32⟩
  | 116 => ⟨S4096x4096, .f32⟩
  | 117 => ⟨S4096x4096, .f32⟩
  | 118 => ⟨S_, .f32⟩
  | 119 => ⟨S4096x4096, .f32⟩
  | 120 => ⟨S4096x4096, .f32⟩
  | 121 => ⟨S4096x4096, .f32⟩
  | 122 => ⟨S_, .f32⟩
  | 123 => ⟨S4096x4096, .f32⟩
  | 124 => ⟨S4096x4096, .f32⟩
  | 125 => ⟨S4096x4096, .f32⟩
  | 126 => ⟨S4096x4096, .f32⟩
  | 127 => ⟨S1x1024x4096, .f32⟩
  | _ => ⟨S2x2048x2048, .f32⟩

abbrev hbmTy0_1 (i : Nat) : BufTy := match i % 128 with
  | 0 => ⟨S1024x4096, .f32⟩
  | 1 => ⟨S4096x1024, .f32⟩
  | 2 => ⟨S4096x1024, .f32⟩
  | 3 => ⟨S1x1024, .f32⟩
  | 4 => ⟨S1024, .f32⟩
  | 5 => ⟨S1x1024, .f32⟩
  | 6 => ⟨S4096x1024, .f32⟩
  | 7 => ⟨S4096x1024, .f32⟩
  | 8 => ⟨S4096x1, .f32⟩
  | 9 => ⟨S4096x1024, .f32⟩
  | 10 => ⟨S4096x1024, .f32⟩
  | 11 => ⟨S4096x1024, .f32⟩
  | 12 => ⟨S1x4096x2048, .f32⟩
  | 13 => ⟨S4096x2048, .f32⟩
  | 14 => ⟨S2048x4096, .f32⟩
  | 15 => ⟨S4096x4096, .f32⟩
  | 16 => ⟨S1x4096, .f32⟩
  | 17 => ⟨S4096, .f32⟩
  | 18 => ⟨S1x4096, .f32⟩
  | 19 => ⟨S4096x4096, .f32⟩
  | 20 => ⟨S4096x4096, .f32⟩
  | 21 => ⟨S_, .f32⟩
  | 22 => ⟨S4096x4096, .f32⟩
  | 23 => ⟨S4096x4096, .f32⟩
  | 24 => ⟨S4096x4096, .f32⟩
  | 25 => ⟨S_, .f32⟩
  | 26 => ⟨S4096x4096, .f32⟩
  | 27 => ⟨S4096x4096, .f32⟩
  | 28 => ⟨S4096x4096, .f32⟩
  | 29 => ⟨S4096x4096, .f32⟩
  | 30 => ⟨S1x1024x4096, .f32⟩
  | 31 => ⟨S1024x4096, .f32⟩
  | 32 => ⟨S4096x1024, .f32⟩
  | 33 => ⟨S4096x1024, .f32⟩
  | 34 => ⟨S1x1024, .f32⟩
  | 35 => ⟨S1024, .f32⟩
  | 36 => ⟨S1x1024, .f32⟩
  | 37 => ⟨S4096x1024, .f32⟩
  | 38 => ⟨S4096x1024, .f32⟩
  | 39 => ⟨S4096x1, .f32⟩
  | 40 => ⟨S4096x1024, .f32⟩
  | 41 => ⟨S4096x1024, .f32⟩
  | 42 => ⟨S4096x1024, .f32⟩
  | 43 => ⟨S1x4096x2048, .f32⟩
  | 44 => ⟨S4096x2048, .f32⟩
  | 45 => ⟨S2048x4096, .f32⟩
  | 46 => ⟨S4096x4096, .f32⟩
  | 47 => ⟨S1x4096, .f32⟩
  | 48 => ⟨S4096, .f32⟩
  | 49 => ⟨S1x4096, .f32⟩
  | 50 => ⟨S4096x4096, .f32⟩
  | 51 => ⟨S4096x4096, .f32⟩
  | 52 => ⟨S_, .f32⟩
  | 53 => ⟨S4096x4096, .f32⟩
  | 54 => ⟨S4096x4096, .f32⟩
  | 55 => ⟨S4096x4096, .f32⟩
  | 56 => ⟨S_, .f32⟩
  | 57 => ⟨S4096x4096, .f32⟩
  | 58 => ⟨S4096x4096, .f32⟩
  | 59 => ⟨S4096x4096, .f32⟩
  | 60 => ⟨S4096x4096, .f32⟩
  | 61 => ⟨S1x1024x4096, .f32⟩
  | 62 => ⟨S1024x4096, .f32⟩
  | 63 => ⟨S4096x1024, .f32⟩
  | 64 => ⟨S4096x1024, .f32⟩
  | 65 => ⟨S1x1024, .f32⟩
  | 66 => ⟨S1024, .f32⟩
  | 67 => ⟨S1x1024, .f32⟩
  | 68 => ⟨S4096x1024, .f32⟩
  | 69 => ⟨S4096x1024, .f32⟩
  | 70 => ⟨S4096x1, .f32⟩
  | 71 => ⟨S4096x1024, .f32⟩
  | 72 => ⟨S4096x1024, .f32⟩
  | 73 => ⟨S4096x1024, .f32⟩
  | 74 => ⟨S1x4096x2048, .f32⟩
  | 75 => ⟨S4096x2048, .f32⟩
  | 76 => ⟨S2048x4096, .f32⟩
  | 77 => ⟨S4096x4096, .f32⟩
  | 78 => ⟨S1x4096, .f32⟩
  | 79 => ⟨S4096, .f32⟩
  | 80 => ⟨S1x4096, .f32⟩
  | 81 => ⟨S4096x4096, .f32⟩
  | 82 => ⟨S4096x4096, .f32⟩
  | 83 => ⟨S_, .f32⟩
  | 84 => ⟨S4096x4096, .f32⟩
  | 85 => ⟨S4096x4096, .f32⟩
  | 86 => ⟨S4096x4096, .f32⟩
  | 87 => ⟨S_, .f32⟩
  | 88 => ⟨S4096x4096, .f32⟩
  | 89 => ⟨S4096x4096, .f32⟩
  | 90 => ⟨S4096x4096, .f32⟩
  | 91 => ⟨S4096x4096, .f32⟩
  | 92 => ⟨S1x1024x4096, .f32⟩
  | 93 => ⟨S1024x4096, .f32⟩
  | 94 => ⟨S4096x1024, .f32⟩
  | 95 => ⟨S4096x1024, .f32⟩
  | 96 => ⟨S1x1024, .f32⟩
  | 97 => ⟨S1024, .f32⟩
  | 98 => ⟨S1x1024, .f32⟩
  | 99 => ⟨S4096x1024, .f32⟩
  | 100 => ⟨S4096x1024, .f32⟩
  | 101 => ⟨S4096x1, .f32⟩
  | 102 => ⟨S4096x1024, .f32⟩
  | 103 => ⟨S4096x1024, .f32⟩
  | 104 => ⟨S4096x1024, .f32⟩
  | 105 => ⟨S1x4096x2048, .f32⟩
  | 106 => ⟨S4096x2048, .f32⟩
  | 107 => ⟨S2048x4096, .f32⟩
  | 108 => ⟨S4096x4096, .f32⟩
  | 109 => ⟨S1x4096, .f32⟩
  | 110 => ⟨S4096, .f32⟩
  | 111 => ⟨S1x4096, .f32⟩
  | 112 => ⟨S4096x4096, .f32⟩
  | 113 => ⟨S4096x4096, .f32⟩
  | 114 => ⟨S_, .f32⟩
  | 115 => ⟨S4096x4096, .f32⟩
  | 116 => ⟨S4096x4096, .f32⟩
  | 117 => ⟨S4096x4096, .f32⟩
  | 118 => ⟨S_, .f32⟩
  | 119 => ⟨S4096x4096, .f32⟩
  | 120 => ⟨S4096x4096, .f32⟩
  | 121 => ⟨S4096x4096, .f32⟩
  | 122 => ⟨S4096x4096, .f32⟩
  | 123 => ⟨S1x1024x4096, .f32⟩
  | 124 => ⟨S1024x4096, .f32⟩
  | 125 => ⟨S4096x1024, .f32⟩
  | 126 => ⟨S4096x1024, .f32⟩
  | 127 => ⟨S1x1024, .f32⟩
  | _ => ⟨S2x2048x2048, .f32⟩

abbrev hbmTy0_2 (i : Nat) : BufTy := match i % 128 with
  | 0 => ⟨S1024, .f32⟩
  | 1 => ⟨S1x1024, .f32⟩
  | 2 => ⟨S4096x1024, .f32⟩
  | 3 => ⟨S4096x1024, .f32⟩
  | 4 => ⟨S4096x1, .f32⟩
  | 5 => ⟨S4096x1024, .f32⟩
  | 6 => ⟨S4096x1024, .f32⟩
  | 7 => ⟨S4096x1024, .f32⟩
  | 8 => ⟨S1x4096x2048, .f32⟩
  | 9 => ⟨S4096x2048, .f32⟩
  | 10 => ⟨S2048x4096, .f32⟩
  | 11 => ⟨S4096x4096, .f32⟩
  | 12 => ⟨S1x4096, .f32⟩
  | 13 => ⟨S4096, .f32⟩
  | 14 => ⟨S1x4096, .f32⟩
  | 15 => ⟨S4096x4096, .f32⟩
  | 16 => ⟨S4096x4096, .f32⟩
  | 17 => ⟨S_, .f32⟩
  | 18 => ⟨S4096x4096, .f32⟩
  | 19 => ⟨S4096x4096, .f32⟩
  | 20 => ⟨S4096x4096, .f32⟩
  | 21 => ⟨S_, .f32⟩
  | 22 => ⟨S4096x4096, .f32⟩
  | 23 => ⟨S4096x4096, .f32⟩
  | 24 => ⟨S4096x4096, .f32⟩
  | 25 => ⟨S4096x4096, .f32⟩
  | 26 => ⟨S1x1024x4096, .f32⟩
  | 27 => ⟨S1024x4096, .f32⟩
  | 28 => ⟨S4096x1024, .f32⟩
  | 29 => ⟨S4096x1024, .f32⟩
  | 30 => ⟨S1x1024, .f32⟩
  | 31 => ⟨S1024, .f32⟩
  | 32 => ⟨S1x1024, .f32⟩
  | 33 => ⟨S4096x1024, .f32⟩
  | 34 => ⟨S4096x1024, .f32⟩
  | 35 => ⟨S4096x1, .f32⟩
  | 36 => ⟨S4096x1024, .f32⟩
  | 37 => ⟨S4096x1024, .f32⟩
  | 38 => ⟨S4096x1024, .f32⟩
  | 39 => ⟨S2048x4096, .f32⟩
  | 40 => ⟨S4096x4096, .f32⟩
  | 41 => ⟨S1x4096, .f32⟩
  | 42 => ⟨S4096x4096, .f32⟩
  | 43 => ⟨S4096x4096, .f32⟩
  | 44 => ⟨S4096x1024, .f32⟩
  | 45 => ⟨S4096x1024, .f32⟩
  | 46 => ⟨S1x1024, .f32⟩
  | 47 => ⟨S4096x1024, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S2x2048x1024, .f32⟩
  | 54 => ⟨S_, .f32⟩
  | 55 => ⟨S2x2048, .f32⟩
  | 56 => ⟨S2x2048x1, .f32⟩
  | 57 => ⟨S_, .f32⟩
  | 58 => ⟨S2x2048x1, .f32⟩
  | 59 => ⟨S2x2048x1, .f32⟩
  | 60 => ⟨S_, .i32⟩
  | 61 => ⟨S_, .f32⟩
  | 62 => ⟨S2x2048, .f32⟩
  | 63 => ⟨S2x2048x1, .f32⟩
  | 64 => ⟨S_, .f32⟩
  | 65 => ⟨S2x2048x1, .f32⟩
  | 66 => ⟨S2x2048x1, .f32⟩
  | 67 => ⟨S2x2048x1024, .f32⟩
  | 68 => ⟨S2x2048x1024, .f32⟩
  | 69 => ⟨S2x2048x1024, .f32⟩
  | 70 => ⟨S_, .f32⟩
  | 71 => ⟨S_, .f32⟩
  | 72 => ⟨S_, .f32⟩
  | 73 => ⟨S_, .f32⟩
  | 74 => ⟨S2x2048, .f32⟩
  | 75 => ⟨S2x2048x1, .f32⟩
  | 76 => ⟨S2x2048x1, .f32⟩
  | 77 => ⟨S2x2048x1, .f32⟩
  | 78 => ⟨S_, .f32⟩
  | 79 => ⟨S_, .i1⟩
  | 80 => ⟨S_, .f32⟩
  | 81 => ⟨S_, .f32⟩
  | 82 => ⟨S2x2048x1, .f32⟩
  | 83 => ⟨S2x2048x1, .f32⟩
  | 84 => ⟨S2x2048x1024, .f32⟩
  | 85 => ⟨S2x2048x1024, .f32⟩
  | 86 => ⟨S_, .f32⟩
  | 87 => ⟨S2x2048x1, .f32⟩
  | 88 => ⟨S2x2048x1, .f32⟩
  | 89 => ⟨S2x2048x1, .f32⟩
  | 90 => ⟨S2x2048x1024, .f32⟩
  | 91 => ⟨S2x2048x1024, .f32⟩
  | 92 => ⟨S1x1x1024, .f32⟩
  | 93 => ⟨S2x2048x1024, .f32⟩
  | 94 => ⟨S2x2048x1024, .f32⟩
  | 95 => ⟨S1x1x1024, .f32⟩
  | 96 => ⟨S2x2048x1024, .f32⟩
  | 97 => ⟨S2x2048x1024, .f32⟩
  | _ => ⟨S2x2048x2048, .f32⟩

abbrev hbmTy (i : Nat) : BufTy := match i / 128 with
  | 0 => hbmTy0_0 i
  | 1 => hbmTy0_1 i
  | 2 => hbmTy0_2 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_values : Ref sig .tc := ⟨.hbm, 29, rfl⟩
abbrev main_indices : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_cst_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_7 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_8 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_9 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_10 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_11 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_12 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_cst_13 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_cst_14 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_cst_15 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_cst_16 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_cst_17 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_cst_18 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_cst_19 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_cst_20 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_cst_21 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_cst_22 : Ref sig .tc := ⟨.hbm, 310, rfl⟩
abbrev main_v268 : Ref sig .tc := ⟨.hbm, 311, rfl⟩
abbrev main_v269 : Ref sig .tc := ⟨.hbm, 312, rfl⟩
abbrev main_cst_23 : Ref sig .tc := ⟨.hbm, 313, rfl⟩
abbrev main_v270 : Ref sig .tc := ⟨.hbm, 314, rfl⟩
abbrev main_v271 : Ref sig .tc := ⟨.hbm, 315, rfl⟩
abbrev main_c : Ref sig .tc := ⟨.hbm, 316, rfl⟩
abbrev main_call1_cst : Ref sig .tc := ⟨.hbm, 317, rfl⟩
abbrev main_call1_v0 : Ref sig .tc := ⟨.hbm, 318, rfl⟩
abbrev main_call1_v1 : Ref sig .tc := ⟨.hbm, 319, rfl⟩
abbrev main_call1_cst_0 : Ref sig .tc := ⟨.hbm, 320, rfl⟩
abbrev main_call1_v2 : Ref sig .tc := ⟨.hbm, 321, rfl⟩
abbrev main_call1_v3 : Ref sig .tc := ⟨.hbm, 322, rfl⟩
abbrev main_call1_v4 : Ref sig .tc := ⟨.hbm, 323, rfl⟩
abbrev main_call1_v5 : Ref sig .tc := ⟨.hbm, 324, rfl⟩
abbrev main_call1_v6 : Ref sig .tc := ⟨.hbm, 325, rfl⟩
abbrev main_call1_v7 : Ref sig .tc := ⟨.hbm, 326, rfl⟩
abbrev main_call1_cst_1 : Ref sig .tc := ⟨.hbm, 327, rfl⟩
abbrev main_call1_v8 : Ref sig .tc := ⟨.hbm, 328, rfl⟩
abbrev main_call1_cst_2 : Ref sig .tc := ⟨.hbm, 329, rfl⟩
abbrev main_call1_v9 : Ref sig .tc := ⟨.hbm, 330, rfl⟩
abbrev main_call1_v10 : Ref sig .tc := ⟨.hbm, 331, rfl⟩
abbrev main_call1_v11 : Ref sig .tc := ⟨.hbm, 332, rfl⟩
abbrev main_call1_v12 : Ref sig .tc := ⟨.hbm, 333, rfl⟩
abbrev main_call1_cst_3 : Ref sig .tc := ⟨.hbm, 334, rfl⟩
abbrev main_call1_v13 : Ref sig .tc := ⟨.hbm, 335, rfl⟩
abbrev main_call1_cst_4 : Ref sig .tc := ⟨.hbm, 336, rfl⟩
abbrev main_call1_call0_v0 : Ref sig .tc := ⟨.hbm, 337, rfl⟩
abbrev main_call1_call0_v1 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_cst_24 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩

abbrev nD : Nat := 1
abbrev τ : Topo := Topo.v7x

variable {F : FTy → Type} [FloatOps F]
-- ==== Proof.RowMath.lean ====
/- The scalar facts that the two programs' results meet by: the two spellings of the exact gelu, a softmax of finite scores, an
   expert's output weighted piece by piece or at once, and the two spellings of a layer norm. Everything is over the extended reals. -/
module

public import Idealize.ShloMosaic.Lib.Pointwise
public import Idealize.ShloMosaic.PureOps.Ideal.Laws

@[expose] public section

set_option maxRecDepth 16384

noncomputable section

namespace Cert.Moe

open Idealize.ShloMosaic

/-! ## The exact gelu -/

/-- The exact gelu by the error function: half of `h`, times one plus `erf (h / √2)`. -/
def gelu (h : EReal) : EReal :=
  Ideal.ofBits .f32 0x3F000000#32 * h * (1 + Ideal.erf (h * Ideal.ofBits .f32 0x3F3504F3#32))

/-- The same by the complementary error function at the negated argument. -/
theorem gelu_erfc (h : EReal) :
    Ideal.ofBits .f32 0x3F000000#32 * h * Ideal.erfc (-h * Ideal.ofBits .f32 0x3F3504F3#32) = gelu h := by
  unfold gelu
  rw [neg_mul, Ideal.erfc_neg]

/-! ## The softmax of a row of eight finite scores -/

/-- The shift of a row: its greatest score, started from minus infinity twice. -/
def shift (s : Fin 8 → EReal) : EReal :=
  max (Ideal.ofBits .f32 0xFF800000#32) (Finset.fold max (Ideal.ofBits .f32 0xFF800000#32) s Finset.univ)

/-- The softmax of a row of eight scores. -/
def soft (s : Fin 8 → EReal) (e : Fin 8) : EReal :=
  Ideal.div (Ideal.exp (s e - shift s)) (∑ x, Ideal.exp (s x - shift s))

/-- The word that a maximum starts from is minus infinity. -/
theorem bot_word : Ideal.ofBits .f32 0xFF800000#32 = (⊥ : EReal) := by
  simp [Ideal.ofBits, Ideal.ieee]

/-- The shift of a row of real scores is one of them. -/
theorem shift_coe (r : Fin 8 → ℝ) : ∃ i, shift (fun e => (r e : EReal)) = (r i : EReal) := by
  obtain ⟨i, -, hi⟩ := Finset.exists_max_image (Finset.univ : Finset (Fin 8)) r ⟨0, Finset.mem_univ _⟩
  refine ⟨i, ?_⟩
  unfold shift
  rw [bot_word, max_eq_right bot_le]
  refine le_antisymm ((Finset.fold_max_le _).mpr ⟨bot_le, fun j hj => EReal.coe_le_coe_iff.mpr (hi j hj)⟩) ?_
  exact (Finset.le_fold_max _).mpr (Or.inr ⟨i, Finset.mem_univ _, le_rfl⟩)

/-- A sum of real numbers, taken among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The softmax of a row of real scores is a row of real numbers that are not negative. -/
theorem soft_coe (r : Fin 8 → ℝ) (e : Fin 8) : ∃ q : ℝ, 0 ≤ q ∧ soft (fun e => (r e : EReal)) e = (q : EReal) := by
  obtain ⟨i, hi⟩ := shift_coe r
  have hx : ∀ x, Ideal.exp ((r x : EReal) - shift (fun e => (r e : EReal))) = ((Real.exp (r x - r i) : ℝ) : EReal) := fun x => by
    rw [hi, ← EReal.coe_sub]; rfl
  have hpos : 0 < ∑ x, Real.exp (r x - r i) := Finset.sum_pos (fun x _ => Real.exp_pos _) ⟨0, Finset.mem_univ _⟩
  refine ⟨Real.exp (r e - r i) * (∑ x, Real.exp (r x - r i))⁻¹, mul_nonneg (Real.exp_pos _).le (inv_nonneg.mpr hpos.le), ?_⟩
  unfold soft
  simp only [hx]
  rw [coe_sum, Ideal.div, if_neg (by rw [EReal.coe_eq_zero]; exact hpos.ne'), ← EReal.coe_inv, ← EReal.coe_mul]

/-- The softmax of real scores is real and nowhere negative. -/
theorem soft_bounds (s : Fin 8 → EReal) (hs : ∀ e, s e ≠ ⊥ ∧ s e ≠ ⊤) (e : Fin 8) : 0 ≤ soft s e ∧ soft s e ≠ ⊤ := by
  obtain ⟨r, rfl⟩ : ∃ r : Fin 8 → ℝ, s = fun e => (r e : EReal) :=
    ⟨fun e => (s e).toReal, funext fun e => (EReal.coe_toReal (hs e).2 (hs e).1).symm⟩
  obtain ⟨q, hq, h⟩ := soft_coe r e
  rw [h]
  exact ⟨EReal.coe_nonneg.mpr hq, EReal.coe_ne_top q⟩

/-- A sum of products of finite factors is finite. -/
theorem sum_mul_finite {ι : Type} [Fintype ι] (a b : ι → EReal) (ha : ∀ k, a k ≠ ⊥ ∧ a k ≠ ⊤) (hb : ∀ k, b k ≠ ⊥ ∧ b k ≠ ⊤) :
    (∑ k, a k * b k) ≠ ⊥ ∧ (∑ k, a k * b k) ≠ ⊤ := by
  have h : ∀ k, a k * b k = (((a k).toReal * (b k).toReal : ℝ) : EReal) := fun k => by
    rw [EReal.coe_mul, EReal.coe_toReal (ha k).2 (ha k).1, EReal.coe_toReal (hb k).2 (hb k).1]
  simp only [h]
  rw [coe_sum]
  exact ⟨EReal.coe_ne_bot _, EReal.coe_ne_top _⟩

/-! ## An expert's output, weighted -/

/-- A finite factor that is not negative goes into a sum. -/
theorem sum_mul_weight {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-! ## The layer norm -/

/-- The number of columns, 1024, as the word that both programs divide by. -/
theorem n_word : Ideal.ofBits .f32 0x44800000#32 = ((1024 : ℝ) : EReal) := by
  simp [Ideal.ofBits, Ideal.ieee, -EReal.coe_mul]; norm_num

/-- The word of one half. -/
theorem half_word : Ideal.ofBits .f32 0x3F000000#32 = ((1 / 2 : ℝ) : EReal) := by
  simp [Ideal.ofBits, Ideal.ieee, -EReal.coe_mul]; norm_num

/-- The word of two. -/
theorem two_word : Ideal.ofBits .f32 0x40000000#32 = ((2 : ℝ) : EReal) := by
  simp [Ideal.ofBits, Ideal.ieee, -EReal.coe_mul]; norm_num

/-- The small number added to the variance is a positive real. -/
theorem eps_word : ∃ q : ℝ, 0 < q ∧ Ideal.ofBits .f32 0x3727C5AC#32 = (q : EReal) := by
  refine ⟨_, ?_, by simp only [Ideal.ofBits, Ideal.ieee]; simp [-EReal.coe_mul]; rfl⟩
  positivity

/-- Half of a number is its product with one half. -/
theorem div_two (a : EReal) : Ideal.div a (Ideal.ofBits .f32 0x40000000#32) = a * Ideal.ofBits .f32 0x3F000000#32 := by
  rw [two_word, half_word, Ideal.div_coe (by norm_num)]

/-- A square is not negative, infinities included. -/
theorem mul_self_nonneg' (a : EReal) : 0 ≤ a * a := by
  rcases le_total 0 a with h | h
  · exact mul_nonneg h h
  · rw [← neg_mul_neg]; exact mul_nonneg (EReal.neg_nonneg.mpr h) (EReal.neg_nonneg.mpr h)

/-- A mean of squares is not negative. -/
theorem mean_sq_nonneg {ι : Type} [Fintype ι] (d : ι → EReal) :
    0 ≤ Ideal.div (∑ k, d k * d k) (Ideal.ofBits .f32 0x44800000#32) := by
  rw [n_word, Ideal.div_coe (by norm_num)]
  exact mul_nonneg (Finset.sum_nonneg fun k _ => mul_self_nonneg' _) (EReal.coe_nonneg.mpr (by norm_num))

/-- Dividing by a root and multiplying by the reciprocal root agree above a variance that is not negative. -/
theorem div_sqrt (a w : EReal) (hw : 0 ≤ w) :
    Ideal.div a (Ideal.sqrt (w + Ideal.ofBits .f32 0x3727C5AC#32)) = a * Ideal.rsqrt (w + Ideal.ofBits .f32 0x3727C5AC#32) := by
  obtain ⟨q, hq, hw'⟩ := eps_word
  rw [hw']
  induction w using EReal.rec with
  | bot => simp at hw
  | top =>
    rw [EReal.top_add_coe]
    change Ideal.div a ⊤ = a * 0
    rw [Ideal.div, if_neg (by simp), EReal.inv_top]
  | coe r =>
    have hr : 0 ≤ r := EReal.coe_nonneg.mp hw
    have hp : 0 < r + q := by linarith
    rw [← EReal.coe_add]
    have hs : Ideal.sqrt ((r + q : ℝ) : EReal) = ((Real.sqrt (r + q) : ℝ) : EReal) := by
      show (if r + q < 0 then ⊥ else _) = _
      rw [if_neg hp.le.not_gt]
    have hrs : Ideal.rsqrt ((r + q : ℝ) : EReal) = (((Real.sqrt (r + q))⁻¹ : ℝ) : EReal) := by
      show (if r + q < 0 then ⊥ else if r + q = 0 then ⊤ else _) = _
      rw [if_neg hp.le.not_gt, if_neg hp.ne']
    rw [hs, hrs, Ideal.div, if_neg (by rw [EReal.coe_eq_zero]; exact (Real.sqrt_pos.mpr hp).ne'), ← EReal.coe_inv]

/-- The mean of a row of 1024 entries. -/
def mean (v : Fin 1024 → EReal) : EReal := Ideal.div (∑ x, v x) (Ideal.ofBits .f32 0x44800000#32)

/-- The variance of a row: the mean of the squared distances to the row's mean. -/
def variance (v : Fin 1024 → EReal) : EReal :=
  Ideal.div (∑ x, (v x - mean v) * (v x - mean v)) (Ideal.ofBits .f32 0x44800000#32)

/-- The layer norm of a row at one column, scaled by `g` and moved by `b`. -/
def layerNorm (v : Fin 1024 → EReal) (n : Fin 1024) (g b : EReal) : EReal :=
  (v n - mean v) * Ideal.rsqrt (variance v + Ideal.ofBits .f32 0x3727C5AC#32) * g + b

/-- The layer norm by a division by the root. -/
theorem layerNorm_div (v : Fin 1024 → EReal) (n : Fin 1024) (g b : EReal) :
    Ideal.div (v n - mean v) (Ideal.sqrt (variance v + Ideal.ofBits .f32 0x3727C5AC#32)) * g + b = layerNorm v n g b := by
  rw [div_sqrt _ (variance v) (mean_sq_nonneg fun x => v x - mean v)]
  rfl

end Cert.Moe

end
-- ==== Proof.Finite.lean ====
/- What the precondition says: the tokens and the gate's weights are real numbers, so the gate's scores are. -/
module

public import proofs.«01_k».proof.Pre_finite_routing
public import proofs.«01_k».proof.Proof.RowMath
public import Idealize.ShloMosaic.Lib.ReduceAll
public import Idealize.ShloMosaic.Lib.Affine

@[expose] public section

set_option maxRecDepth 16384

noncomputable section

namespace Cert.Moe

open Idealize.ShloMosaic
open Cert.Pre_finite_routing

/-- The shape relations of the precondition's operations. -/
theorem preFacts : Cert.Pre_finite_routing.Facts where
  bcast_S_S2x2048x2048 := by decide
  reducesTo_S2x2048x2048_S_d0_1_2 := by decide
  h_S_ := by decide
  bcast_S_S8x2048 := by decide
  reducesTo_S8x2048_S_d0_1 := by decide

/-- The word that the precondition compares with is plus infinity. -/
theorem top_word : Ideal.ofBits .f32 0x7F800000#32 = (⊤ : EReal) := by
  simp [Ideal.ofBits, Ideal.ieee]

/-- A number whose magnitude compares below infinity is neither infinity. -/
theorem finite_of_below (a : EReal) (h : Ideal.cmp .olt (max a (-a)) (Ideal.ofBits .f32 0x7F800000#32) = 1#1) : a ≠ ⊥ ∧ a ≠ ⊤ := by
  rw [top_word] at h
  constructor
  · rintro rfl
    simp [Ideal.cmp] at h
  · rintro rfl
    simp [Ideal.cmp] at h

/-- Where the precondition is all ones, the tokens and the gate's weights have no infinite entry. -/
theorem finite_of_pre [Facts] (x : FVec Ideal S2x2048x2048 .f32) (wg : FVec Ideal S8x2048 .f32) (a2 : FVec Ideal S8x4096x2048 .f32)
    (a3 : FVec Ideal S8x4096 .f32) (a4 : FVec Ideal S8x1024x4096 .f32) (a5 : FVec Ideal S8x1024 .f32) (a6 : FVec Ideal S4096x2048 .f32)
    (a7 : FVec Ideal S4096 .f32) (a8 : FVec Ideal S1024x4096 .f32) (a9 a10 a11 : FVec Ideal S1024 .f32)
    (h : fn (F := Ideal) x wg a2 a3 a4 a5 a6 a7 a8 a9 a10 a11 = fun _ => 1#1) :
    (∀ i, x i ≠ ⊥ ∧ x i ≠ ⊤) ∧ ∀ i, wg i ≠ ⊥ ∧ wg i ≠ ⊤ := by
  have hj := congrFun h (Shape.Idx.first Facts.h_S_)
  have hs : Subsingleton S_.Idx := ⟨fun a b => funext fun k => k.elim0⟩
  obtain ⟨h1, h2⟩ := IntOp.andi_eq_one.1 hj
  exact ⟨fun i => finite_of_below _ (Host.reduce_andi_all _ _ _ _ _ h1 i),
    fun i => finite_of_below _ (Host.reduce_andi_all _ _ _ _ _ h2 i)⟩

end Cert.Moe

end
-- ==== Proof.Gate.lean ====
/- The choice of the two best experts of a token, in two spellings.

   A kernel finds the first greatest entry of a row of eight, hides it behind minus infinity, and finds the first greatest entry of what
   is left. A reference sorts the row and takes its first two positions. Both write the two values back at their positions. Here the two
   spellings are shown to be one function of a row whose entries are finite and not negative. -/
module

public import Idealize.ShloMosaic.Lib.Pointwise
public import Idealize.ShloMosaic.Lib.SortPrefix
public import Idealize.ShloMosaic.PureOps.Ideal.Laws

@[expose] public section

set_option maxRecDepth 16384

noncomputable section

namespace Cert.Moe

open Idealize.ShloMosaic

/-! ## The first greatest entry -/

/-- Entry `i` is the greatest of the row, and the first one that is. -/
def FirstMax {n : Nat} (p : Fin n → EReal) (i : Fin n) : Prop :=
  (∀ j, p j ≤ p i) ∧ ∀ j, j < i → p j < p i

/-- A row that is not empty has a first greatest entry. -/
theorem exists_firstMax {n : Nat} (p : Fin (n + 1) → EReal) : ∃ i, FirstMax p i := by
  classical
  obtain ⟨i₀, -, h₀⟩ := Finset.exists_max_image (Finset.univ : Finset (Fin (n + 1))) p ⟨0, Finset.mem_univ _⟩
  have hne : (Finset.univ.filter fun i => ∀ j, p j ≤ p i).Nonempty :=
    ⟨i₀, Finset.mem_filter.mpr ⟨Finset.mem_univ _, fun j => h₀ j (Finset.mem_univ _)⟩⟩
  obtain ⟨i, hi, hmin⟩ := Finset.exists_min_image _ (fun i : Fin (n + 1) => i) hne
  have hi' := (Finset.mem_filter.mp hi).2
  refine ⟨i, hi', fun j hj => lt_of_le_of_ne (hi' j) fun e => ?_⟩
  have hjm : j ∈ Finset.univ.filter fun i => ∀ j, p j ≤ p i :=
    Finset.mem_filter.mpr ⟨Finset.mem_univ _, fun k => e ▸ hi' k⟩
  exact absurd (hmin j hjm) (not_le.mpr hj)

/-- The word of minus infinity denotes the least extended real. -/
theorem negInf_eq : Ideal.ofBits .f32 0xFF800000#32 = (⊥ : EReal) := by
  simp [Ideal.ofBits, Ideal.ieee]

/-- The greatest entry, started from minus infinity. -/
theorem fold_max_eq {n : Nat} (p : Fin n → EReal) (i : Fin n) (h : FirstMax p i) :
    Finset.fold max (Ideal.ofBits .f32 0xFF800000#32) p Finset.univ = p i := by
  rw [negInf_eq]
  refine le_antisymm ((Finset.fold_max_le _).mpr ⟨bot_le, fun j _ => h.1 j⟩) ?_
  exact (Finset.le_fold_max _).mpr (Or.inr ⟨i, Finset.mem_univ _, le_rfl⟩)

/-- The least position marked in a row of eight, with 8 standing at the positions that are not marked. -/
theorem fold_min_marks : ∀ (b : Fin 8 → Bool) (i : Fin 8), b i = true → (∀ j, j < i → b j = false) →
    Finset.fold IntOp.minsi (2147483647#32) (fun x : Fin 8 => if b x = true then BitVec.ofNat 32 x.val else 8#32) Finset.univ
      = BitVec.ofNat 32 i.val := by
  decide +kernel

/-- The first greatest position of a row, as the kernel computes it. -/
def firstTop (p : Fin 8 → EReal) : BitVec 32 :=
  Finset.fold IntOp.minsi (2147483647#32)
    (fun x : Fin 8 => if p x = Finset.fold max (Ideal.ofBits .f32 0xFF800000#32) p Finset.univ then BitVec.ofNat 32 x.val else 8#32)
    Finset.univ

/-- The position that the kernel finds is that of the first greatest entry. -/
theorem firstTop_eq (p : Fin 8 → EReal) (i : Fin 8) (h : FirstMax p i) : firstTop p = BitVec.ofNat 32 i.val := by
  classical
  unfold firstTop
  rw [fold_max_eq p i h]
  have := fold_min_marks (fun x => decide (p x = p i)) i (by simp) (fun j hj => by simpa using (h.2 j hj).ne)
  simpa only [decide_eq_true_eq] using this

/-- The test "this position is that one", on words of positions below eight. -/
theorem cmpi_pos : ∀ e i : Fin 8, IntOp.cmpi .eq (BitVec.ofNat 32 e.val) (BitVec.ofNat 32 i.val) = BitVec.ofBool (decide (e = i)) := by
  decide +kernel

/-- A choice by equal positions is a choice by the equation. -/
theorem select_pos {α : Type} (e i : Fin 8) (a b : α) :
    Scalar.select (IntOp.cmpi .eq (BitVec.ofNat 32 e.val) (BitVec.ofNat 32 i.val)) a b = if e = i then a else b := by
  rw [cmpi_pos]
  by_cases h : e = i <;> simp [h, Scalar.select]

/-- The row with its first greatest entry hidden behind minus infinity, as the kernel computes it. -/
def hideTop (p : Fin 8 → EReal) (x : Fin 8) : EReal :=
  Scalar.select (IntOp.cmpi .eq (BitVec.ofNat 32 x.val) (firstTop p)) (Ideal.ofBits .f32 0xFF800000#32) (p x)

/-- The kernel's weights of the eight experts. -/
def pickTwo (p : Fin 8 → EReal) (e : Fin 8) : EReal :=
  Scalar.select (IntOp.cmpi .eq (BitVec.ofNat 32 e.val) (firstTop p))
      (Finset.fold max (Ideal.ofBits .f32 0xFF800000#32) p Finset.univ) 0
    + Scalar.select (IntOp.cmpi .eq (BitVec.ofNat 32 e.val) (firstTop (hideTop p)))
      (Finset.fold max (Ideal.ofBits .f32 0xFF800000#32) (hideTop p) Finset.univ) 0

/-! ## The two best positions -/

/-- `a` is the first greatest position, and `b` the first greatest of the others. -/
structure TopTwo (p : Fin 8 → EReal) (a b : Fin 8) : Prop where
  fst : FirstMax p a
  ne : b ≠ a
  snd : ∀ j, j ≠ a → p j ≤ p b
  first : ∀ j, j ≠ a → j < b → p j < p b

/-- Hiding the first greatest entry puts minus infinity there and keeps the rest. -/
theorem hideTop_eq (p : Fin 8 → EReal) (a x : Fin 8) (h : FirstMax p a) : hideTop p x = if x = a then ⊥ else p x := by
  unfold hideTop
  rw [firstTop_eq p a h, select_pos, negInf_eq]

/-- A row without minus infinity has a best and a second best position, and the first greatest position of the row with the best one
    hidden is the second best. -/
theorem exists_topTwo (p : Fin 8 → EReal) (hp : ∀ e, p e ≠ ⊥) : ∃ a b, TopTwo p a b ∧ FirstMax (hideTop p) b := by
  obtain ⟨a, ha⟩ := exists_firstMax p
  obtain ⟨b, hb⟩ := exists_firstMax (hideTop p)
  have hh : ∀ x, hideTop p x = if x = a then ⊥ else p x := fun x => hideTop_eq p a x ha
  have hne : b ≠ a := by
    rintro rfl
    obtain ⟨j, hj⟩ := exists_ne b
    have := hb.1 j
    rw [hh j, hh b, if_neg hj, if_pos rfl] at this
    exact hp j (le_bot_iff.mp this)
  refine ⟨a, b, ⟨ha, hne, fun j hj => ?_, fun j hj hlt => ?_⟩, hb⟩
  · have := hb.1 j
    rwa [hh j, hh b, if_neg hj, if_neg hne] at this
  · have := hb.2 j hlt
    rwa [hh j, hh b, if_neg hj, if_neg hne] at this

/-- The kernel's weights: the two best values at their positions, 0 elsewhere. -/
theorem pickTwo_eq (p : Fin 8 → EReal) (a b : Fin 8) (h : TopTwo p a b) (hb : FirstMax (hideTop p) b) (e : Fin 8) :
    pickTwo p e = (if e = a then p a else 0) + if e = b then p b else 0 := by
  unfold pickTwo
  rw [firstTop_eq p a h.fst, firstTop_eq _ b hb, select_pos, select_pos, fold_max_eq p a h.fst, fold_max_eq _ b hb,
    hideTop_eq p a b h.fst, if_neg h.ne]

/-- The weights of a row of finite entries that are not negative are finite and not negative. -/
theorem pickTwo_bounds (p : Fin 8 → EReal) (h0 : ∀ e, 0 ≤ p e) (ht : ∀ e, p e ≠ ⊤) (e : Fin 8) : 0 ≤ pickTwo p e ∧ pickTwo p e ≠ ⊤ := by
  obtain ⟨a, b, h, hb⟩ := exists_topTwo p fun e he => by have := h0 e; rw [he] at this; exact absurd this (by simp)
  rw [pickTwo_eq p a b h hb]
  have ha : (0 : EReal) ≤ (if e = a then p a else 0) ∧ (if e = a then p a else 0) ≠ ⊤ := by split <;> simp [h0, ht]
  have hb : (0 : EReal) ≤ (if e = b then p b else 0) ∧ (if e = b then p b else 0) ≠ ⊤ := by split <;> simp [h0, ht]
  exact ⟨add_nonneg ha.1 hb.1, EReal.add_ne_top ha.2 hb.2⟩

/-! ## The sort's first two positions -/

/-- A stable sort of positions in increasing order does not change when ties are broken by the position. -/
theorem stableSort_refine {n : Nat} (B R : Fin n → Fin n → Bool) (hBR : ∀ a b, a < b → R b a = B b a) :
    ∀ l : List (Fin n), l.Pairwise (· < ·) → stableSort B l = stableSort R l
  | [], _ => rfl
  | a :: l, h => by
    rw [List.pairwise_cons] at h
    unfold stableSort
    rw [stableSort_refine B R hBR l h.2]
    exact insertBefore_congr B R a _ fun b hb => (hBR a b (h.1 b ((perm_stableSort R l).mem_iff.mp hb))).symm

/-- Position `k` comes before `k'` when its entry is the greater one. -/
def greater (p : Fin 8 → EReal) (k k' : Fin 8) : Bool := FloatOps.cmpfTotal (F := Ideal) (φ := .f32) .gt (p k) (p k') == 1#1

/-- The order of the sort: greater first. -/
theorem greater_eq (p : Fin 8 → EReal) (k k' : Fin 8) : greater p k k' = decide (p k' < p k) := by
  unfold greater
  rw [Ideal.cmpfTotal_def]
  show (BitVec.ofBool (decide (p k' < p k)) == 1#1) = _
  by_cases h : p k' < p k <;> simp [h]

/-- The first two positions of the sort are those of the two picks. -/
theorem sortedFrom_topTwo (p : Fin 8 → EReal) (a b : Fin 8) (h : TopTwo p a b) :
    sortedFrom (greater p) (0 : Fin 8) = a ∧ sortedFrom (greater p) (1 : Fin 8) = b := by
  classical
  set R : Fin 8 → Fin 8 → Bool := fun k k' => decide (p k' < p k) || (decide (p k = p k') && decide (k < k')) with hR
  have hst : StrictTotalBefore R :=
    StrictTotalBefore.of_key_then_position (fun x y : EReal => decide (y < x)) p (fun a => by simp)
      (fun a b c hab hbc => by simp only [decide_eq_true_eq] at *; exact lt_trans hbc hab)
      (fun a b => by simp only [decide_eq_true_eq]; rcases lt_trichotomy a b with h | h | h <;> tauto)
  have hpos : sortPositions 8 (greater p) = sortPositions 8 R :=
    stableSort_refine _ _ (fun x y hxy => by
      rw [greater_eq, hR]
      simp [not_lt.mpr hxy.le]) _ (List.pairwise_lt_finRange 8)
  have hsf : ∀ k, sortedFrom (greater p) k = sortedFrom R k := fun k => by
    unfold sortedFrom
    simp only [List.get_eq_getElem, hpos, Fin.val_cast]
  have hpre := hst.sortedFrom_eq_of_prefix (k := 2) (by decide) ![a, b]
    (by
      intro i j hij
      fin_cases i <;> fin_cases j <;> simp_all [h.ne, h.ne.symm])
    (by
      intro i j hij
      obtain ⟨rfl, rfl⟩ : i = 0 ∧ j = 1 := by omega
      simp only [hR, Matrix.cons_val_zero, Matrix.cons_val_one, Bool.or_eq_false_iff, Bool.and_eq_false_iff,
        decide_eq_false_iff_not, not_lt]
      refine ⟨h.fst.1 b, ?_⟩
      by_cases hlt : b < a
      · exact Or.inl (h.fst.2 b hlt).ne
      · exact Or.inr (not_lt.mp hlt))
    (by
      intro i q hq
      have hqa : q ≠ a := fun e => hq 0 e.symm
      have hqb : q ≠ b := fun e => hq 1 e.symm
      fin_cases i
      · simp only [hR, Fin.zero_eta, Matrix.cons_val_zero, Bool.or_eq_false_iff, Bool.and_eq_false_iff,
          decide_eq_false_iff_not, not_lt]
        refine ⟨h.fst.1 q, ?_⟩
        by_cases hlt : q < a
        · exact Or.inl (h.fst.2 q hlt).ne
        · exact Or.inr (not_lt.mp hlt)
      · simp only [hR, Fin.mk_one, Matrix.cons_val_one, Bool.or_eq_false_iff, Bool.and_eq_false_iff,
          decide_eq_false_iff_not, not_lt]
        refine ⟨h.snd q hqa, ?_⟩
        by_cases hlt : q < b
        · exact Or.inl (h.first q hqa hlt).ne
        · exact Or.inr (not_lt.mp hlt))
  exact ⟨(hsf 0).trans (hpre 0), (hsf 1).trans (hpre 1)⟩

/-- The reference's weights: the sort's first two positions, each value times a row that is 1 at its position and 0 elsewhere, summed. -/
theorem sorted_eq_pickTwo (p : Fin 8 → EReal) (h0 : ∀ e, 0 ≤ p e) (e : Fin 8) :
    ∑ k : Fin 2, p (sortedFrom (greater p) (k.castLE (by decide)))
        * (if e = sortedFrom (greater p) (k.castLE (by decide)) then (1 : EReal) else 0) = pickTwo p e := by
  obtain ⟨a, b, h, hb⟩ := exists_topTwo p fun e he => by have := h0 e; rw [he] at this; exact absurd this (by simp)
  have hs := sortedFrom_topTwo p a b h
  rw [pickTwo_eq p a b h hb, Fin.sum_univ_two]
  show p (sortedFrom (greater p) 0) * _ + p (sortedFrom (greater p) 1) * _ = _
  rw [show ((0 : Fin 2).castLE (by decide) : Fin 8) = 0 from rfl, show ((1 : Fin 2).castLE (by decide) : Fin 8) = 1 from rfl, hs.1, hs.2]
  simp [mul_ite]

end Cert.Moe

end
-- ==== Proof.Region0.lean ====
/- The gate's launch: the array of the two kept weights of every row, whatever the two input arrays hold. -/
module

public import proofs.«01_k».proof.Proof.Gen.KernelIdeal.Frame
public import proofs.«01_k».proof.Proof.Gate
public import proofs.«01_k».proof.Proof.RowMath
public import Idealize.ShloMosaic.Lib.Pipeline.ValueKit

@[expose] public section

set_option maxRecDepth 16384

noncomputable section

namespace Cert.Moe

open Idealize.ShloMosaic Idealize.ShloMosaic.TcCoe Idealize.SL.Sem
open Idealize.ShloMosaic.Pipeline (Dat)
open Cert.KernelIdeal Cert.KernelIdeal.Gen

/-- The weight of expert `e` for row `r`: the two greatest entries of the softmax of the row's scores, nothing elsewhere. -/
def gateAt (X : FVec Ideal S4096x2048 .f32) (Wg : FVec Ideal S8x2048 .f32) (r : Fin 4096) (e : Fin 8) : EReal :=
  pickTwo (soft fun x => ∑ k : Fin 2048, X (ix2 r k) * Wg (ix2 x k)) e

/-- The array of these weights. -/
def gateArr (X : FVec Ideal S4096x2048 .f32) (Wg : FVec Ideal S8x2048 .f32) : FVec Ideal S4096x8 .f32 :=
  fun j => gateAt X Wg (j 0) (j 1)

/-- The softmax block of the body, read at an entry. -/
theorem k0_pay2_at (v0 : FVec Ideal S1024x2048 .f32) (v2 : FVec Ideal S8x2048 .f32) (r : Fin 1024) (e : Fin 8) :
    k0_pay2 (F := Ideal) v0 v2 (ix2 r e) = soft (fun x => ∑ k : Fin 2048, v0 (ix2 r k) * v2 (ix2 x k)) e := by
  pointwise [k0_pay2]
  rfl

/-- The body's block, read at an entry. -/
theorem gate_body_at (v0 : FVec Ideal S1024x2048 .f32) (v2 : FVec Ideal S8x2048 .f32) (r : Fin 1024) (e : Fin 8) :
    k0_pay1 (F := Ideal) (k0_pay6 (F := Ideal) v0 v2) (k0_pay7 (F := Ideal) v0 v2) (k0_pay8 (F := Ideal) v0 v2) (Scalar.ofBits .f32 0x00000000#32) (ix2 r e)
      = pickTwo (soft fun x => ∑ k : Fin 2048, v0 (ix2 r k) * v2 (ix2 x k)) e := by
  have h : (fun x => k0_pay2 (F := Ideal) v0 v2 (ix2 r x)) = soft fun x => ∑ k : Fin 2048, v0 (ix2 r k) * v2 (ix2 x k) :=
    funext fun x => k0_pay2_at v0 v2 r x
  rw [← h]
  pointwise [k0_pay1, k0_pay3, k0_pay4, k0_pay5, k0_pay6, k0_pay7, k0_pay8]
  rfl

/-- Which block each of the gate's windows shows at a step. -/
theorem idx0 : ∀ t : Fin cfg0.N, win0_0.index t = ![t.val, 0] ∧ win0_1.index t = ![0, 0] ∧ win0_2.index t = ![t.val, 0] :=
  (by decide +kernel : ∀ t : Fin grid0.N, _)

variable (V : (c : Dev nD) → (b : Ref sig .tc) → Buf (Elt Ideal) ((c : Thread nD τ).loc b))

/-- After the gate's launch its output array holds the weights. -/
theorem gate_final (c : Dev nD) : (dat0 V c).arrAt 2 cfg0.N = gateArr (V c main_v0) (V c main_arg1) := by
  refine (dat0 V c).arrAt_eq_of_covers 2 _ (by decide +kernel) fun t _ y => ?_
  blk_simp
  rw [after0_2]; frame_out
  idx_vars y
  refine (gate_body_at _ _ _ _).trans ?_
  unfold gateArr gateAt
  blk_point [iblk0, idx0 t]

end Cert.Moe

end
-- ==== Proof.Region1.lean ====
/- The experts' launch: its output array, whatever the six input arrays hold. -/
module

public import proofs.«01_k».proof.Proof.Gen.KernelIdeal.Frame
public import proofs.«01_k».proof.Proof.RowMath
public import proofs.«01_k».proof.Proof.Gate
public import Idealize.ShloMosaic.Lib.Pipeline.ValueKit

@[expose] public section

set_option maxRecDepth 16384

noncomputable section

namespace Cert.Moe

open Idealize.ShloMosaic Idealize.ShloMosaic.TcCoe Idealize.SL.Sem
open Idealize.ShloMosaic.Pipeline (Dat)
open Cert.KernelIdeal Cert.KernelIdeal.Gen

/-! ## The body's blocks, read at an entry -/

/-- The block that an output starts from is zero. -/
theorem zero_at (j : S1024x1024.Idx) : k1_pay3 (F := Ideal) j = (0 : EReal) := by
  pointwise [k1_pay3]

/-- Masking all entries of a row but one and adding up leaves that entry. -/
theorem pick_sum (f : Fin 8 → EReal) (e : Fin 8) :
    ∑ x : Fin 8, Scalar.select (IntOp.cmpi .eq (BitVec.ofNat 32 x.val) (BitVec.ofNat 32 e.val)) (f x) 0 = f e := by
  simp only [select_pos]
  rw [Finset.sum_ite_eq' Finset.univ e f, if_pos (Finset.mem_univ _)]

/-- The column of weights of the point's expert, found by masking the other experts and adding up. -/
theorem weight_at (i : grid1.Coords) (c : FVec Ideal S1024x8 .f32) (r : Fin 1024) :
    k1_pay4 (F := Ideal) i c (ix2 r 0) = c (ix2 r (i 1)) := by
  pointwise [k1_pay4]
  exact pick_sum (fun x => c (ix2 r x)) (i 1)

/-- A piece of the hidden layer after its gelu, read at an entry. -/
theorem hidden_at (x : FVec Ideal S1024x2048 .f32) (w : FVec Ideal S1x512x2048 .f32) (b : FVec Ideal S1x1x512 .f32) (r : Fin 1024)
    (l : Fin 512) :
    k1_pay5 (F := Ideal) x w b (ix2 r l) = gelu ((∑ k : Fin 2048, x (ix2 r k) * w (ix3 0 l k)) + b (ix3 0 0 l)) := by
  pointwise [k1_pay5]
  rfl

/-- What one point adds: the expert's output over 512 hidden units, times the expert's weight. -/
def chunkPart (x : FVec Ideal S1024x2048 .f32) (w : FVec Ideal S1x512x2048 .f32) (b : FVec Ideal S1x1x512 .f32)
    (u : FVec Ideal S1x1024x512 .f32) (wt : FVec Ideal S1024x8 .f32) (e : Fin 8) (j : S1024x1024.Idx) : EReal :=
  (∑ l : Fin 512, gelu ((∑ k : Fin 2048, x (ix2 (j 0) k) * w (ix3 0 l k)) + b (ix3 0 0 l)) * u (ix3 0 (j 1) l)) * wt (ix2 (j 0) e)

/-- What an expert's first point adds besides: the expert's second bias, times the expert's weight. -/
def biasPart (b : FVec Ideal S1x1x1024 .f32) (wt : FVec Ideal S1024x8 .f32) (e : Fin 8) (j : S1024x1024.Idx) : EReal :=
  b (ix3 0 0 (j 1)) * wt (ix2 (j 0) e)

/-- One step: the output block gains a piece of an expert, weighted. -/
theorem step_at (i : grid1.Coords) (x : FVec Ideal S1024x2048 .f32) (w : FVec Ideal S1x512x2048 .f32) (b : FVec Ideal S1x1x512 .f32)
    (u : FVec Ideal S1x1024x512 .f32) (wt : FVec Ideal S1024x8 .f32) (acc : FVec Ideal S1024x1024 .f32) (j : S1024x1024.Idx) :
    k1_pay2 (F := Ideal) (k1_pay4 (F := Ideal) i wt) (k1_pay5 (F := Ideal) x w b) (k1_pay6 (F := Ideal) u)
      (constant S1024x1024 .f32 0x00000000#32) acc j = acc j + chunkPart x w b u wt (i 1) j := by
  idx_vars j
  have h : ∀ (c : FVec Ideal S1024x1 .f32) (h : FVec Ideal S1024x512 .f32) (r n : Fin 1024),
      k1_pay2 (F := Ideal) c h (k1_pay6 (F := Ideal) u) (constant S1024x1024 .f32 0x00000000#32) acc (ix2 r n)
        = acc (ix2 r n) + (∑ l : Fin 512, h (ix2 r l) * u (ix3 0 n l)) * c (ix2 r 0) := fun c h r n => by
    pointwise [k1_pay2, k1_pay6]
  refine (h _ _ _ _).trans ?_
  rw [weight_at]
  simp only [hidden_at]
  rfl

/-- An expert's first step also adds its second bias, weighted. -/
theorem bias_at (i : grid1.Coords) (wt : FVec Ideal S1024x8 .f32) (acc : FVec Ideal S1024x1024 .f32) (b : FVec Ideal S1x1x1024 .f32)
    (j : S1024x1024.Idx) :
    k1_pay1 (F := Ideal) (k1_pay4 (F := Ideal) i wt) acc b j = acc j + biasPart b wt (i 1) j := by
  idx_vars j
  have h : ∀ (c : FVec Ideal S1024x1 .f32) (r n : Fin 1024),
      k1_pay1 (F := Ideal) c acc b (ix2 r n) = acc (ix2 r n) + b (ix3 0 0 n) * c (ix2 r 0) := fun c r n => by
    pointwise [k1_pay1]
  refine (h _ _ _).trans ?_
  rw [weight_at]
  rfl

/-! ## The launch -/

/-- Which block each of the experts' windows shows at a step. -/
theorem idx1 : ∀ t : Fin cfg1.N, win1_0.index t = ![t.val / 64, 0] ∧ win1_1.index t = ![t.val / 8 % 8, t.val % 8, 0]
    ∧ win1_2.index t = ![t.val % 64, 0, 0] ∧ win1_3.index t = ![t.val / 8 % 8, 0, t.val % 8]
    ∧ win1_4.index t = ![t.val / 8 % 8, 0, 0] ∧ win1_5.index t = ![t.val / 64, 0] ∧ win1_6.index t = ![t.val / 64, 0]
    ∧ (grid1.coords t 1).val = t.val / 8 % 8 :=
  (by decide +kernel : ∀ t : Fin grid1.N, _)

/-- The expert of a point. -/
def expertOf (t : Fin cfg1.N) : Fin 8 := grid1.coords t 1

variable (V : (c : Dev nD) → (b : Ref sig .tc) → Buf (Elt Ideal) ((c : Thread nD τ).loc b))

/-- What point `p` adds to its block. -/
def pointPart (c : Dev nD) (p : Fin cfg1.N) (j : S1024x1024.Idx) : EReal :=
  (if p.val % 8 = 0 then biasPart (iblk1 V c 4 p) (iblk1 V c 5 p) (expertOf p) j else 0)
    + chunkPart (iblk1 V c 0 p) (iblk1 V c 1 p) (iblk1 V c 2 p) (iblk1 V c 3 p) (iblk1 V c 5 p) (expertOf p) j

/-- The output block after the first step of a row block. -/
theorem out_first (c : Dev nD) (t : Fin cfg1.N) (h : t.val % 64 = 0) (j) :
    outsAt1 V c t.val t.isLt j = 0 + pointPart V c t j := by
  have h' : t.val % 8 = 0 := by omega
  rw [outsAt1_A V c t h h']; frame_out
  rw [step_at, bias_at, zero_at, pointPart, if_pos h', add_assoc]
  rfl

/-- The output block after a later step. -/
theorem out_next (c : Dev nD) (t : Fin cfg1.N) (h : ¬ t.val % 64 = 0) (j) :
    outsAt1 V c t.val t.isLt j = outsAt1 V c (t.val - 1) (lt_of_le_of_lt (Nat.sub_le _ _) t.isLt) j + pointPart V c t j := by
  by_cases h' : t.val % 8 = 0
  · rw [outsAt1_C V c t h h']; frame_out
    rw [step_at, bias_at, pointPart, if_pos h', add_assoc]
    rfl
  · rw [outsAt1_B V c t h h']; frame_out
    rw [step_at, pointPart, if_neg h', zero_add]
    rfl

/-- The experts at a row and a column, each in eight pieces of 512 hidden units and each piece weighted for itself. -/
def expertsAt (X : FVec Ideal S4096x2048 .f32) (W1 : FVec Ideal S8x4096x2048 .f32) (b1 : FVec Ideal S64x1x512 .f32)
    (W2 : FVec Ideal S8x1024x4096 .f32) (b2 : FVec Ideal S8x1x1024 .f32) (C : FVec Ideal S4096x8 .f32) (r : Fin 4096) (n : Fin 1024) : EReal :=
  ∑ e : Fin 8, ∑ k : Fin 8, ((if k.val = 0 then b2 (ix3 e 0 n) * C (ix2 r e) else 0)
    + (∑ l : Fin 512, gelu ((∑ q : Fin 2048, X (ix2 r q) * W1 (ix3 e ⟨k.val * 512 + l.val, by omega⟩ q))
        + b1 (ix3 ⟨e.val * 8 + k.val, by omega⟩ 0 l)) * W2 (ix3 e n ⟨k.val * 512 + l.val, by omega⟩)) * C (ix2 r e))

/-- The array of these values. -/
def expertsArr (X : FVec Ideal S4096x2048 .f32) (W1 : FVec Ideal S8x4096x2048 .f32) (b1 : FVec Ideal S64x1x512 .f32)
    (W2 : FVec Ideal S8x1024x4096 .f32) (b2 : FVec Ideal S8x1x1024 .f32) (C : FVec Ideal S4096x8 .f32) : FVec Ideal S4096x1024 .f32 :=
  fun j => expertsAt X W1 b1 W2 b2 C (j 0) (j 1)

/-- After the experts' launch its output array holds the experts' weighted sum. -/
theorem experts_final (c : Dev nD) : (dat1 V c).arrAt 6 cfg1.N
    = expertsArr (V c main_v0) (V c main_arg2) (V c main_v2) (V c main_arg4) (V c main_v3) (V c main_v1) := by
  refine (dat1 V c).arrAt_eq_of_covers 6 _ (by decide +kernel) fun t hf y => ?_
  blk_simp
  rw [after1_6, Pipeline.eq_sum_fin_of_reset_step_apply_of_flush (fun n h => outsAt1 V c n h) 64 (fun _ => 0) (pointPart V c)
    (fun t h j => out_first V c t h j) (fun t h j => out_next V c t h j) t ((flush1_6 t).mp hf) _, zero_add]
  have ht : t.val < 256 := lt_of_lt_of_eq t.isLt N_1
  idx_vars y
  unfold expertsArr expertsAt
  refine Fin.sum_divmod_congr fun s ha hs => ?_
  have hk : (64 * (t.val / 64) + s.val) % 8 = s.val % 8 := by omega
  have hp := idx1 ⟨_, Pipeline.run_point_lt_of_flush t ((flush1_6 t).mp hf) s⟩
  have he : expertOf ⟨_, Pipeline.run_point_lt_of_flush t ((flush1_6 t).mp hf) s⟩ = ⟨s.val / 8, ha⟩ := by
    refine Fin.ext (hp.2.2.2.2.2.2.2.trans ?_)
    dsimp only
    omega
  unfold pointPart
  rw [he]
  refine congrArg₂ (· + ·) ?_ ?_
  · by_cases hz : s.val % 8 = 0
    · rw [if_pos (hk.trans hz), if_pos hz]
      unfold biasPart
      blk_point [iblk1, idx1 t, hp]
    · rw [if_neg (fun h => hz (hk.symm.trans h)), if_neg hz]
  · unfold chunkPart
    blk_point [iblk1, idx1 t, hp]

end Cert.Moe

end
-- ==== Proof.Region2.lean ====
/- The shared expert's launch: its output array, whatever the five input arrays hold. -/
module

public import proofs.«01_k».proof.Proof.Gen.KernelIdeal.Frame
public import proofs.«01_k».proof.Proof.RowMath
public import Idealize.ShloMosaic.Lib.Pipeline.ValueKit

@[expose] public section

set_option maxRecDepth 16384

noncomputable section

namespace Cert.Moe

open Idealize.ShloMosaic Idealize.ShloMosaic.TcCoe Idealize.SL.Sem
open Idealize.ShloMosaic.Pipeline (Dat)
open Cert.KernelIdeal Cert.KernelIdeal.Gen

/-- The block that an output of the shared expert starts from is its second bias. -/
theorem shared_start_at (b : FVec Ideal S1x1024 .f32) (j : S1024x1024.Idx) : k2_pay1 (F := Ideal) b j = b (ix2 0 (j 1)) := by
  pointwise [k2_pay1]

/-- What one point adds: the part of the second linear layer over 512 hidden units. -/
def sharedPart (x : FVec Ideal S1024x2048 .f32) (w : FVec Ideal S512x2048 .f32) (b : FVec Ideal S1x512 .f32)
    (u : FVec Ideal S1024x512 .f32) (j : S1024x1024.Idx) : EReal :=
  ∑ l : Fin 512, ((∑ k : Fin 2048, x (ix2 (j 0) k) * w (ix2 l k)) + b (ix2 0 l)) * u (ix2 (j 1) l)

/-- One step: the output block gains a piece of the shared expert. -/
theorem shared_step_at (x : FVec Ideal S1024x2048 .f32) (w : FVec Ideal S512x2048 .f32) (b : FVec Ideal S1x512 .f32)
    (acc : FVec Ideal S1024x1024 .f32) (u : FVec Ideal S1024x512 .f32) (j : S1024x1024.Idx) :
    k2_pay2 (F := Ideal) x w b acc u j = acc j + sharedPart x w b u j := by
  unfold sharedPart
  pointwise [k2_pay2]

/-- Which block each of the shared expert's windows shows at a step. -/
theorem idx2' : ∀ t : Fin cfg2.N, win2_0.index t = ![t.val / 8, 0] ∧ win2_1.index t = ![t.val % 8, 0] ∧ win2_2.index t = ![0, t.val % 8]
    ∧ win2_3.index t = ![0, t.val % 8] ∧ win2_4.index t = ![0, 0] ∧ win2_5.index t = ![t.val / 8, 0] :=
  (by decide +kernel : ∀ t : Fin grid2.N, _)

variable (V : (c : Dev nD) → (b : Ref sig .tc) → Buf (Elt Ideal) ((c : Thread nD τ).loc b))

/-- The shared expert at a row and a column, started from its second bias. -/
def sharedAt (X : FVec Ideal S4096x2048 .f32) (Ws1 : FVec Ideal S4096x2048 .f32) (bs1 : FVec Ideal S1x4096 .f32)
    (Ws2 : FVec Ideal S1024x4096 .f32) (bs2 : FVec Ideal S1x1024 .f32) (r : Fin 4096) (n : Fin 1024) : EReal :=
  bs2 (ix2 0 n) + ∑ i : Fin 4096, ((∑ k : Fin 2048, X (ix2 r k) * Ws1 (ix2 i k)) + bs1 (ix2 0 i)) * Ws2 (ix2 n i)

/-- The array of these values. -/
def sharedArr (X : FVec Ideal S4096x2048 .f32) (Ws1 : FVec Ideal S4096x2048 .f32) (bs1 : FVec Ideal S1x4096 .f32)
    (Ws2 : FVec Ideal S1024x4096 .f32) (bs2 : FVec Ideal S1x1024 .f32) : FVec Ideal S4096x1024 .f32 :=
  fun j => sharedAt X Ws1 bs1 Ws2 bs2 (j 0) (j 1)

/-- After the shared expert's launch its output array holds the shared expert. -/
theorem shared_final (c : Dev nD) : (dat2 V c).arrAt 5 cfg2.N
    = sharedArr (V c main_v0) (V c main_arg6) (V c main_v5) (V c main_arg8) (V c main_v6) := by
  refine (dat2 V c).arrAt_eq_of_covers 5 _ (by decide +kernel) fun t hf y => ?_
  blk_simp
  rw [after2_5, Pipeline.eq_sum_fin_of_reset_step_apply_of_flush (fun n h => outsAt2 V c n h) 8
    (fun j => V c main_v6 (ix2 0 (j 1)))
    (fun p j => sharedPart (iblk2 V c 0 p) (iblk2 V c 1 p) (iblk2 V c 2 p) (iblk2 V c 3 p) j)
    (fun t h j => by
      rw [outsAt2_A V c t h]; frame_out
      rw [shared_step_at, shared_start_at]
      blk_point [iblk2, idx2' t])
    (fun t h j => by rw [outsAt2_B V c t h]; frame_out; rw [shared_step_at])
    t ((flush2_5 t).mp hf) _]
  unfold sharedArr sharedAt
  have ht : t.val < 32 := lt_of_lt_of_eq t.isLt N_2
  idx_vars y
  refine congrArg₂ (· + ·) ?_ ?_
  · blk_point [idx2' t]
  · unfold sharedPart
    refine Fin.sum_mul_add_congr fun s k hl => ?_
    blk_point [iblk2, idx2' t, idx2' ⟨_, Pipeline.run_point_lt_of_flush t ((flush2_5 t).mp hf) s⟩]

end Cert.Moe

end
-- ==== Proof.Region3.lean ====
/- The layer norm's launch: its output array, row by row, whatever the four input arrays hold. -/
module

public import proofs.«01_k».proof.Proof.Gen.KernelIdeal.Frame
public import proofs.«01_k».proof.Proof.RowMath
public import Idealize.ShloMosaic.Lib.Pipeline.ValueKit

@[expose] public section

set_option maxRecDepth 16384

noncomputable section

namespace Cert.Moe

open Idealize.ShloMosaic Idealize.ShloMosaic.TcCoe Idealize.SL.Sem
open Idealize.ShloMosaic.Pipeline (Dat)
open Cert.KernelIdeal Cert.KernelIdeal.Gen

/-- The body's block, read at an entry: the layer norm of half the sum of the two rows. -/
theorem ln_body_at (v0 v2 : FVec Ideal S1024x1024 .f32) (g b : FVec Ideal S1x1024 .f32) (r : Fin 1024) (n : Fin 1024) :
    k3_pay1 (F := Ideal) v0 v2 g b (ix2 r n)
      = layerNorm (fun x => (v0 (ix2 r x) + v2 (ix2 r x)) * Ideal.ofBits .f32 0x3F000000#32) n (g (ix2 0 n)) (b (ix2 0 n)) := by
  pointwise [k3_pay1]
  rfl

/-- Which block each of the layer norm's windows shows at a step. -/
theorem idx3 : ∀ t : Fin cfg3.N, win3_0.index t = ![t.val, 0] ∧ win3_1.index t = ![t.val, 0] ∧ win3_2.index t = ![0, 0]
    ∧ win3_3.index t = ![0, 0] ∧ win3_4.index t = ![t.val, 0] :=
  (by decide +kernel : ∀ t : Fin grid3.N, _)

/-- The layer norm of half the sum of two arrays, at a row and a column. -/
def normAt (Y Z : FVec Ideal S4096x1024 .f32) (g b : FVec Ideal S1x1024 .f32) (r : Fin 4096) (n : Fin 1024) : EReal :=
  layerNorm (fun x => (Y (ix2 r x) + Z (ix2 r x)) * Ideal.ofBits .f32 0x3F000000#32) n (g (ix2 0 n)) (b (ix2 0 n))

/-- The array of these values. -/
def normArr (Y Z : FVec Ideal S4096x1024 .f32) (g b : FVec Ideal S1x1024 .f32) : FVec Ideal S4096x1024 .f32 :=
  fun j => normAt Y Z g b (j 0) (j 1)

variable (V : (c : Dev nD) → (b : Ref sig .tc) → Buf (Elt Ideal) ((c : Thread nD τ).loc b))

/-- After the layer norm's launch its output array holds the normalized rows. -/
theorem norm_final (c : Dev nD) : (dat3 V c).arrAt 4 cfg3.N = normArr (V c main_v4) (V c main_v7) (V c main_v8) (V c main_v9) := by
  refine (dat3 V c).arrAt_eq_of_covers 4 _ (by decide +kernel) fun t _ y => ?_
  blk_simp
  rw [after3_4]; frame_out
  idx_vars y
  refine (ln_body_at _ _ _ _ _ _).trans ?_
  unfold normArr normAt
  blk_point [iblk3, idx3 t]

end Cert.Moe

end
-- ==== Proof.Chain.lean ====
/- What each buffer holds along the kernel's main function: from the arguments, through the four launches, to the result. -/
module

public import proofs.«01_k».proof.Proof.Region0
public import proofs.«01_k».proof.Proof.Region1
public import proofs.«01_k».proof.Proof.Region2
public import proofs.«01_k».proof.Proof.Region3
public import Idealize.ShloMosaic.Lib.Claim

@[expose] public section

set_option maxRecDepth 16384

noncomputable section

namespace Cert.Moe

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## The argument arrays at the launches' shapes -/

/-- The input, one row per token. -/
abbrev xArr (c : Dev nD) : FVec Ideal S4096x2048 .f32 :=
  shapeCast S4096x2048 (m ((c : Thread nD τ).loc main_arg0)) shapeCasts_S2x2048x2048_S4096x2048
/-- The experts' first biases, one row per expert and piece. -/
abbrev b1Arr (c : Dev nD) : FVec Ideal S64x1x512 .f32 :=
  shapeCast S64x1x512 (m ((c : Thread nD τ).loc main_arg3)) shapeCasts_S8x4096_S64x1x512
/-- The experts' second biases. -/
abbrev b2Arr (c : Dev nD) : FVec Ideal S8x1x1024 .f32 :=
  shapeCast S8x1x1024 (m ((c : Thread nD τ).loc main_arg5)) shapeCasts_S8x1024_S8x1x1024
/-- The shared expert's first bias. -/
abbrev bs1Arr (c : Dev nD) : FVec Ideal S1x4096 .f32 :=
  shapeCast S1x4096 (m ((c : Thread nD τ).loc main_arg7)) shapeCasts_S4096_S1x4096
/-- The shared expert's second bias. -/
abbrev bs2Arr (c : Dev nD) : FVec Ideal S1x1024 .f32 :=
  shapeCast S1x1024 (m ((c : Thread nD τ).loc main_arg9)) shapeCasts_S1024_S1x1024
/-- The scale of the layer norm. -/
abbrev gArr (c : Dev nD) : FVec Ideal S1x1024 .f32 :=
  shapeCast S1x1024 (m ((c : Thread nD τ).loc main_arg10)) shapeCasts_S1024_S1x1024
/-- The shift of the layer norm. -/
abbrev bArr (c : Dev nD) : FVec Ideal S1x1024 .f32 :=
  shapeCast S1x1024 (m ((c : Thread nD τ).loc main_arg11)) shapeCasts_S1024_S1x1024

/-! ## The buffers the launches read -/

/-- The rows of the input, before the first launch. -/
theorem x_W1 (c : Dev nD) : V1 m ρ c main_v0 = xArr m c := by
  show StableHlo.after hostOps0 (W0 m ρ c) (Proc.devRef .tc main_v0) = _
  after_results
  rfl

/-- They are still there before the second launch. -/
theorem x_W3 (c : Dev nD) : V3 m ρ c main_v0 = xArr m c :=
  (W3_of m ρ c main_v0 (by decide)).trans ((W2_of m ρ c main_v0 (by decide)).trans (x_W1 m ρ c))

/-- And before the third. -/
theorem x_W5 (c : Dev nD) : V5 m ρ c main_v0 = xArr m c :=
  (W5_of m ρ c main_v0 (by decide)).trans ((W4_of m ρ c main_v0 (by decide)).trans (x_W3 m ρ c))

/-- Before the experts' launch the gate's buffer holds the experts' weights. -/
theorem gate_W3 (c : Dev nD) : V3 m ρ c main_v1 = gateArr (xArr m c) (m ((c : Thread nD τ).loc main_arg1)) :=
  (W3_of m ρ c main_v1 (by decide)).trans ((W2_arr m ρ c 2).trans ((gate_final (V1 m ρ) c).trans
    (congrArg₂ gateArr (x_W1 m ρ c) (W1_args m ρ c main_arg1 (by decide)))))

/-- Before the experts' launch: their first biases, laid in pieces. -/
theorem b1_W3 (c : Dev nD) : V3 m ρ c main_v2 = b1Arr m c := by
  show StableHlo.after hostOps1 (W2 m ρ c) (Proc.devRef .tc main_v2) = _
  after_results
  rw [W2_args m ρ c main_arg3 (by decide)]
  rfl

/-- Before the experts' launch: their second biases. -/
theorem b2_W3 (c : Dev nD) : V3 m ρ c main_v3 = b2Arr m c := by
  show StableHlo.after hostOps1 (W2 m ρ c) (Proc.devRef .tc main_v3) = _
  after_results
  rw [W2_args m ρ c main_arg5 (by decide)]
  rfl

/-- The experts' weighted sum, over the argument arrays. -/
abbrev yArr (c : Dev nD) : FVec Ideal S4096x1024 .f32 :=
  expertsArr (xArr m c) (m ((c : Thread nD τ).loc main_arg2)) (b1Arr m c) (m ((c : Thread nD τ).loc main_arg4)) (b2Arr m c)
    (gateArr (xArr m c) (m ((c : Thread nD τ).loc main_arg1)))

/-- After the experts' launch: their weighted sum. -/
theorem y_W4 (c : Dev nD) : V4 m ρ c main_v4 = yArr m c := by
  refine (W4_arr m ρ c 6).trans ((experts_final (V3 m ρ) c).trans ?_)
  rw [x_W3, b1_W3, b2_W3, gate_W3]
  rw [show V3 m ρ c main_arg2 = m ((c : Thread nD τ).loc main_arg2) from W3_args m ρ c main_arg2 (by decide),
    show V3 m ρ c main_arg4 = m ((c : Thread nD τ).loc main_arg4) from W3_args m ρ c main_arg4 (by decide)]

/-- It is still there before the layer norm's launch. -/
theorem y_W7 (c : Dev nD) : V7 m ρ c main_v4 = yArr m c :=
  (W7_of m ρ c main_v4 (by decide)).trans ((W6_of m ρ c main_v4 (by decide)).trans ((W5_of m ρ c main_v4 (by decide)).trans (y_W4 m ρ c)))

/-- Before the shared expert's launch: its first bias, as one row. -/
theorem bs1_W5 (c : Dev nD) : V5 m ρ c main_v5 = bs1Arr m c := by
  show StableHlo.after hostOps2 (W4 m ρ c) (Proc.devRef .tc main_v5) = _
  after_results
  rw [W4_args m ρ c main_arg7 (by decide)]
  rfl

/-- Before the shared expert's launch: its second bias, as one row. -/
theorem bs2_W5 (c : Dev nD) : V5 m ρ c main_v6 = bs2Arr m c := by
  show StableHlo.after hostOps2 (W4 m ρ c) (Proc.devRef .tc main_v6) = _
  after_results
  rw [W4_args m ρ c main_arg9 (by decide)]
  rfl

/-- The shared expert, over the argument arrays. -/
abbrev zArr (c : Dev nD) : FVec Ideal S4096x1024 .f32 :=
  sharedArr (xArr m c) (m ((c : Thread nD τ).loc main_arg6)) (bs1Arr m c) (m ((c : Thread nD τ).loc main_arg8)) (bs2Arr m c)

/-- After the shared expert's launch: the shared expert. -/
theorem z_W6 (c : Dev nD) : V6 m ρ c main_v7 = zArr m c := by
  refine (W6_arr m ρ c 5).trans ((shared_final (V5 m ρ) c).trans ?_)
  rw [x_W5, bs1_W5, bs2_W5]
  rw [show V5 m ρ c main_arg6 = m ((c : Thread nD τ).loc main_arg6) from W5_args m ρ c main_arg6 (by decide),
    show V5 m ρ c main_arg8 = m ((c : Thread nD τ).loc main_arg8) from W5_args m ρ c main_arg8 (by decide)]

/-- It is still there before the layer norm's launch. -/
theorem z_W7 (c : Dev nD) : V7 m ρ c main_v7 = zArr m c :=
  (W7_of m ρ c main_v7 (by decide)).trans (z_W6 m ρ c)

/-- Before the layer norm's launch: its scale, as one row. -/
theorem g_W7 (c : Dev nD) : V7 m ρ c main_v8 = gArr m c := by
  show StableHlo.after hostOps3 (W6 m ρ c) (Proc.devRef .tc main_v8) = _
  after_results
  rw [W6_args m ρ c main_arg10 (by decide)]
  rfl

/-- Before the layer norm's launch: its shift, as one row. -/
theorem b_W7 (c : Dev nD) : V7 m ρ c main_v9 = bArr m c := by
  show StableHlo.after hostOps3 (W6 m ρ c) (Proc.devRef .tc main_v9) = _
  after_results
  rw [W6_args m ρ c main_arg11 (by decide)]
  rfl

/-- The kernel's result, over the argument arrays. -/
def kernelOut (c : Dev nD) : FVec Ideal S2x2048x1024 .f32 :=
  shapeCast S2x2048x1024 (normArr (yArr m c) (zArr m c) (gArr m c) (bArr m c)) shapeCasts_S4096x1024_S2x2048x1024

/-- After the layer norm's launch: the normalized rows. -/
theorem out_W8 (c : Dev nD) : V8 m ρ c main_v10 = normArr (yArr m c) (zArr m c) (gArr m c) (bArr m c) := by
  refine (W8_arr m ρ c 4).trans ((norm_final (V7 m ρ) c).trans ?_)
  rw [y_W7, z_W7, g_W7, b_W7]

/-- The result buffer at the end of the main function. -/
theorem out_W9 (c : Dev nD) : W9 m ρ c (Proc.devRef .tc main_v11) = kernelOut m c := by
  show StableHlo.after hostOps4 (W8 m ρ c) (Proc.devRef .tc main_v11) = _
  after_results
  rw [show W8 m ρ c (Proc.devRef .tc main_v10) = _ from out_W8 m ρ c]
  rfl

end Cert.Moe

end
-- ==== Proof.RefGate.lean ====
/- The reference's gate and the experts' hidden layers, read at an entry. -/
module

public import proofs.«01_k».proof.Proof.Gen.ReferenceIdeal.Run
public import proofs.«01_k».proof.Proof.Gate
public import proofs.«01_k».proof.Proof.RowMath
public import Idealize.ShloMosaic.Lib.Pipeline.ValueKit
public import Idealize.ShloMosaic.Lib.Tactic.CleanTypes

@[expose] public section

set_option maxRecDepth 16384

noncomputable section

namespace Cert.Moe.Ref

open Idealize.ShloMosaic Idealize.ShloMosaic.TcCoe Idealize.SL.Sem
open Cert.ReferenceIdeal Cert.ReferenceIdeal.Gen Cert.ReferenceIdeal.Value

variable (V0 : Valuation τ sig (Elt Ideal))

/-! ## The arguments by their shapes, and the stages that the run names -/

/-- The tokens, one row each. -/
abbrev x2 : FVec Ideal S4096x2048 .f32 := res_main_v0 (F := Ideal) V0
/-- The gate's weights. -/
abbrev wg : FVec Ideal S8x2048 .f32 := V0 (Proc.devRef .tc main_arg1)
/-- The experts' first weights. -/
abbrev w1 : FVec Ideal S8x4096x2048 .f32 := V0 (Proc.devRef .tc main_arg2)
/-- The experts' first biases. -/
abbrev b1 : FVec Ideal S8x4096 .f32 := V0 (Proc.devRef .tc main_arg3)

/-- The gate's scores. -/
abbrev v2 : FVec Ideal S4096x8 .f32 := res_main_v2 (F := Ideal) V0
/-- The gate's softmax. -/
abbrev v13 : FVec Ideal S4096x8 .f32 := res_main_v13 (F := Ideal) V0
/-- The weights of the experts. -/
abbrev v20 : FVec Ideal S4096x8 .f32 := res_main_v20 (F := Ideal) V0
/-- The hidden layer of expert 0, before its gelu. -/
abbrev v30 : FVec Ideal S4096x4096 .f32 := res_main_v30 (F := Ideal) V0
/-- The hidden layer of expert 1, before its gelu. -/
abbrev v59 : FVec Ideal S4096x4096 .f32 := res_main_v59 (F := Ideal) V0
/-- The hidden layer of expert 2, before its gelu. -/
abbrev v88 : FVec Ideal S4096x4096 .f32 := res_main_v88 (F := Ideal) V0
/-- The hidden layer of expert 3, before its gelu. -/
abbrev v117 : FVec Ideal S4096x4096 .f32 := res_main_v117 (F := Ideal) V0
/-- The hidden layer of expert 4, before its gelu. -/
abbrev v146 : FVec Ideal S4096x4096 .f32 := res_main_v146 (F := Ideal) V0
/-- The hidden layer of expert 5, before its gelu. -/
abbrev v175 : FVec Ideal S4096x4096 .f32 := res_main_v175 (F := Ideal) V0
/-- The hidden layer of expert 6, before its gelu. -/
abbrev v204 : FVec Ideal S4096x4096 .f32 := res_main_v204 (F := Ideal) V0
/-- The hidden layer of expert 7, before its gelu. -/
abbrev v233 : FVec Ideal S4096x4096 .f32 := res_main_v233 (F := Ideal) V0

/-! ## The gate -/

/-- The scores of a row. -/
def scores (r : Fin 4096) (e : Fin 8) : EReal := ∑ k : Fin 2048, x2 V0 (ix2 r k) * wg V0 (ix2 e k)

/-- The scores, read at an entry. -/
theorem score_at (r : Fin 4096) (e : Fin 8) : (v2 V0) (ix2 r e) = scores V0 r e := by
  unfold scores
  unfold v2 res_main_v2
  clean_types
  pointwise

/-- A maximum taken over the entries that fall on row `r` is one over the row's eight entries. -/
theorem row_max (w : FVec Ideal S4096x8 .f32) (b : EReal) (r : Fin 4096) :
    Finset.fold max b w {i | reducesTo_S4096x8_S4096_d1.drop i = ix1 r}
      = Finset.fold max b (fun e : Fin 8 => w (ix2 r e)) Finset.univ :=
  reducesTo_S4096x8_S4096_d1.fold_fiber_r2_a1 (ix1 r) max b w

/-- The softmax, read at an entry. -/
theorem soft_at (r : Fin 4096) (e : Fin 8) : (v13 V0) (ix2 r e) = soft (scores V0 r) e := by
  have hs : (fun e : Fin 8 => v2 V0 (ix2 r e)) = scores V0 r := funext fun e => score_at V0 r e
  refine Eq.trans ?_ (congrArg (fun s => soft s e) hs)
  unfold v13 res_main_v13
  clean_types
  pointwise [res_main_v9]
  have key := row_max (v2 V0) (Ideal.ofBits .f32 0xFF800000#32) r
  exact congrArg (fun M : EReal =>
    Ideal.div (Ideal.exp (v2 V0 (ix2 r e) - max (Ideal.ofBits .f32 0xFF800000#32) M))
      (∑ x : Fin 8, Ideal.exp (v2 V0 (ix2 r x) - max (Ideal.ofBits .f32 0xFF800000#32) M))) key

/-- The two greatest of a row and their positions, by the sort of the row. -/
theorem topK_at (p : FVec Ideal S4096x8 .f32) (r : Fin 4096) (x : Fin 2) :
    (Host.topK S4096x2 1 (FloatOps.cmpfTotal (F := Ideal) (φ := .f32) .gt) p sliceFits_S4096x8_S4096x2).1 (ix2 r x)
      = p (ix2 r (sortedFrom (greater fun e => p (ix2 r e)) (x.castLE (by decide))))
    ∧ (Host.topK S4096x2 1 (FloatOps.cmpfTotal (F := Ideal) (φ := .f32) .gt) p sliceFits_S4096x8_S4096x2).2 (ix2 r x)
      = BitVec.ofNat 32 (sortedFrom (greater fun e => p (ix2 r e)) (x.castLE (by decide))).val := by
  have ha : ∀ (c : Fin 8) (k : Fin 8), Shape.Idx.along (s := S4096x8) (ix2 r c) (1 : Fin 2) k = ix2 r k := by
    intro c k
    funext a
    match a with
    | ⟨0, _⟩ => rfl
    | ⟨1, _⟩ => rfl
  unfold Host.topK Host.sort2
  dsimp only
  constructor
  · pointwise
    simp only [ha]
    rfl
  · pointwise
    simp only [ha]
    rfl

/-- An entry of the row that is one at a pick's position and zero elsewhere. -/
theorem hot_at (k e : Fin 8) : FloatOps.uitofp (F := Ideal) .f32 (IntOp.cmpi .eq (BitVec.ofNat 32 k.val) (BitVec.ofNat 32 e.val))
    = if e = k then (1 : EReal) else 0 := by
  rw [cmpi_pos]
  by_cases h : k = e
  · subst h
    simp [FloatOps.uitofp]
  · simp [FloatOps.uitofp, h, Ne.symm h]

/-- The weights of the experts for a row, when its softmax has no negative entry. -/
theorem combine_at (r : Fin 4096) (e : Fin 8) (h0 : ∀ x, 0 ≤ soft (scores V0 r) x) :
    (v20 V0) (ix2 r e) = pickTwo (soft (scores V0 r)) e := by
  have hp : (fun x : Fin 8 => v13 V0 (ix2 r x)) = soft (scores V0 r) := funext fun x => soft_at V0 r x
  rw [← hp] at h0 ⊢
  refine Eq.trans ?_ (sorted_eq_pickTwo _ h0 e)
  unfold v20 res_main_v20
  clean_types
  pointwise
  refine Finset.sum_congr rfl fun x _ => ?_
  have ht := topK_at (v13 V0) r x
  refine (congrArg₂ (· * ·) ht.1 (congrArg (fun w => FloatOps.uitofp (F := Ideal) .f32 (IntOp.cmpi .eq w (BitVec.ofNat 32 e.val))) ht.2)).trans ?_
  exact congrArg _ (hot_at _ e)

/-! ## The hidden layers -/

/-- The hidden layer of expert `e`, before its gelu. -/
def hidden (e : Fin 8) (r i : Fin 4096) : EReal := (∑ k : Fin 2048, x2 V0 (ix2 r k) * w1 V0 (ix3 e i k)) + b1 V0 (ix2 e i)

/-- The hidden layer of expert 0, read at an entry. -/
theorem hidden0_at (r i : Fin 4096) : (v30 V0) (ix2 r i) = hidden V0 0 r i := by
  unfold hidden
  unfold v30 res_main_v30
  clean_types
  pointwise

/-- The hidden layer of expert 1, read at an entry. -/
theorem hidden1_at (r i : Fin 4096) : (v59 V0) (ix2 r i) = hidden V0 1 r i := by
  unfold hidden
  unfold v59 res_main_v59
  clean_types
  pointwise

/-- The hidden layer of expert 2, read at an entry. -/
theorem hidden2_at (r i : Fin 4096) : (v88 V0) (ix2 r i) = hidden V0 2 r i := by
  unfold hidden
  unfold v88 res_main_v88
  clean_types
  pointwise

/-- The hidden layer of expert 3, read at an entry. -/
theorem hidden3_at (r i : Fin 4096) : (v117 V0) (ix2 r i) = hidden V0 3 r i := by
  unfold hidden
  unfold v117 res_main_v117
  clean_types
  pointwise

/-- The hidden layer of expert 4, read at an entry. -/
theorem hidden4_at (r i : Fin 4096) : (v146 V0) (ix2 r i) = hidden V0 4 r i := by
  unfold hidden
  unfold v146 res_main_v146
  clean_types
  pointwise

/-- The hidden layer of expert 5, read at an entry. -/
theorem hidden5_at (r i : Fin 4096) : (v175 V0) (ix2 r i) = hidden V0 5 r i := by
  unfold hidden
  unfold v175 res_main_v175
  clean_types
  pointwise

/-- The hidden layer of expert 6, read at an entry. -/
theorem hidden6_at (r i : Fin 4096) : (v204 V0) (ix2 r i) = hidden V0 6 r i := by
  unfold hidden
  unfold v204 res_main_v204
  clean_types
  pointwise

/-- The hidden layer of expert 7, read at an entry. -/
theorem hidden7_at (r i : Fin 4096) : (v233 V0) (ix2 r i) = hidden V0 7 r i := by
  unfold hidden
  unfold v233 res_main_v233
  clean_types
  pointwise

end Cert.Moe.Ref

end
-- ==== Proof.RefRow.lean ====
/- The reference's rows, read at an entry. -/
module

public import proofs.«01_k».proof.Proof.Gen.ReferenceIdeal.Run
public import proofs.«01_k».proof.Proof.RefGate
public import proofs.«01_k».proof.Proof.RowMath
public import Idealize.ShloMosaic.Lib.Pipeline.ValueKit
public import Idealize.ShloMosaic.Lib.Tactic.CleanTypes

@[expose] public section

set_option maxRecDepth 16384

noncomputable section

namespace Cert.Moe.Ref

open Idealize.ShloMosaic Idealize.ShloMosaic.TcCoe Idealize.SL.Sem
open Cert.ReferenceIdeal Cert.ReferenceIdeal.Gen Cert.ReferenceIdeal.Value

variable (V0 : Valuation τ sig (Elt Ideal))

/-! ## The arguments by their shapes, and the stages that the run names -/

/-- The experts' second weights. -/
abbrev w2 : FVec Ideal S8x1024x4096 .f32 := V0 (Proc.devRef .tc main_arg4)
/-- The experts' second biases. -/
abbrev b2 : FVec Ideal S8x1024 .f32 := V0 (Proc.devRef .tc main_arg5)
/-- The shared expert's first weights. -/
abbrev ws1 : FVec Ideal S4096x2048 .f32 := V0 (Proc.devRef .tc main_arg6)
/-- The shared expert's first biases. -/
abbrev bs1 : FVec Ideal S4096 .f32 := V0 (Proc.devRef .tc main_arg7)
/-- The shared expert's second weights. -/
abbrev ws2 : FVec Ideal S1024x4096 .f32 := V0 (Proc.devRef .tc main_arg8)
/-- The shared expert's second biases. -/
abbrev bs2 : FVec Ideal S1024 .f32 := V0 (Proc.devRef .tc main_arg9)
/-- The layer norm's scale. -/
abbrev lnw : FVec Ideal S1024 .f32 := V0 (Proc.devRef .tc main_arg10)
/-- The layer norm's offset. -/
abbrev lnb : FVec Ideal S1024 .f32 := V0 (Proc.devRef .tc main_arg11)

/-- The weighted sum of the first five experts. -/
abbrev v166 : FVec Ideal S4096x1024 .f32 := res_main_v166 (F := Ideal) V0
/-- The rows before the layer norm, by token. -/
abbrev v267 : FVec Ideal S2x2048x1024 .f32 := res_main_v267 (F := Ideal) V0

/-! ## The row before its layer norm -/

/-- What expert `e` adds to entry `n` of row `r`. -/
def expert (e : Fin 8) (r : Fin 4096) (n : Fin 1024) : EReal :=
  ((∑ i : Fin 4096, gelu (hidden V0 e r i) * w2 V0 (ix3 e n i)) + b2 V0 (ix2 e n)) * v20 V0 (ix2 r e)

/-- What the shared expert adds to entry `n` of row `r`. -/
def sharedRow (r : Fin 4096) (n : Fin 1024) : EReal :=
  (∑ i : Fin 4096, ((∑ k : Fin 2048, x2 V0 (ix2 r k) * ws1 V0 (ix2 i k)) + bs1 V0 (ix1 i)) * ws2 V0 (ix2 n i)) + bs2 V0 (ix1 n)

/-- Entry `n` of row `r`, before the layer norm. -/
def rowAt (r : Fin 4096) (n : Fin 1024) : EReal :=
  ((∑ e : Fin 8, expert V0 e r n) + sharedRow V0 r n) * Ideal.ofBits .f32 0x3F000000#32

/-- The number of the token at `(b, s)`. -/
def token (b : Fin 2) (s : Fin 2048) : Fin 4096 := ⟨b.val * 2048 + s.val, by omega⟩

/-- An expert's term as the program writes it, through the complementary error function. -/
theorem expert_term (e : Fin 8) (r : Fin 4096) (n : Fin 1024) (h : FVec Ideal S4096x4096 .f32)
    (hh : ∀ i, h (ix2 r i) = hidden V0 e r i) :
    ((∑ i : Fin 4096, Ideal.ofBits .f32 0x3F000000#32 * h (ix2 r i) * Ideal.erfc (-h (ix2 r i) * Ideal.ofBits .f32 0x3F3504F3#32)
        * w2 V0 (ix3 e n i)) + b2 V0 (ix2 e n)) * v20 V0 (ix2 r e) = expert V0 e r n := by
  unfold expert
  refine congrArg (fun t : EReal => (t + b2 V0 (ix2 e n)) * v20 V0 (ix2 r e)) (Finset.sum_congr rfl fun i _ => ?_)
  rw [gelu_erfc, hh]

/-- The sum of the first five experts, read at an entry. -/
theorem v166_at (r : Fin 4096) (n : Fin 1024) :
    (v166 V0) (ix2 r n) = expert V0 0 r n + expert V0 1 r n + expert V0 2 r n + expert V0 3 r n + expert V0 4 r n := by
  rw [← expert_term V0 0 r n (v30 V0) (hidden0_at V0 r), ← expert_term V0 1 r n (v59 V0) (hidden1_at V0 r),
    ← expert_term V0 2 r n (v88 V0) (hidden2_at V0 r), ← expert_term V0 3 r n (v117 V0) (hidden3_at V0 r),
    ← expert_term V0 4 r n (v146 V0) (hidden4_at V0 r)]
  unfold v166 res_main_v166
  clean_types
  pointwise

/-- The rows before the layer norm, read at an entry. -/
theorem v267_at (b : Fin 2) (s : Fin 2048) (n : Fin 1024) : (v267 V0) (ix3 b s n) = rowAt V0 (token b s) n := by
  unfold rowAt
  rw [← div_two, Fin.sum_univ_eight, ← v166_at, ← expert_term V0 5 (token b s) n (v175 V0) (hidden5_at V0 _),
    ← expert_term V0 6 (token b s) n (v204 V0) (hidden6_at V0 _), ← expert_term V0 7 (token b s) n (v233 V0) (hidden7_at V0 _)]
  unfold v267 res_main_v267
  clean_types
  pointwise
  rfl

/-! ## The layer norm -/

/-- The reference's result. -/
abbrev out : FVec Ideal S2x2048x1024 .f32 := val6 (F := Ideal) V0 (Proc.devRef .tc main_v285)

/-- The count that the variance divides by. -/
theorem count_at : (res_main_call1_v8 (F := Ideal) V0 : FVec Ideal S_ .f32) ix0 = Ideal.ofBits .f32 0x44800000#32 := by
  have h0 : FloatOps.sitofp (F := Ideal) .f32 (0#32) = (0 : EReal) := by simp [FloatOps.sitofp]
  unfold res_main_call1_v8
  clean_types
  pointwise
  rw [h0, n_word, sub_zero]

/-- A row less its mean, read at an entry. -/
theorem centered_at (b : Fin 2) (s : Fin 2048) (n : Fin 1024) :
    (res_main_call1_v5 (F := Ideal) V0 : FVec Ideal S2x2048x1024 .f32) (ix3 b s n)
      = rowAt V0 (token b s) n - mean (rowAt V0 (token b s)) := by
  unfold mean
  simp only [← v267_at]
  unfold res_main_call1_v5
  clean_types
  pointwise

/-- The reference's result, read at an entry. -/
theorem out_at (b : Fin 2) (s : Fin 2048) (n : Fin 1024) :
    (out V0) (ix3 b s n) = layerNorm (rowAt V0 (token b s)) n (lnw V0 (ix1 n)) (lnb V0 (ix1 n)) := by
  rw [← layerNorm_div]
  refine (congrFun (val6_main_v285 V0) _).trans ?_
  clean_types
  pointwise
  have hc := count_at V0
  have hd := centered_at V0 b s
  have hv := v267_at V0 b s
  have hpos : (0 : EReal) < Ideal.ofBits .f32 0x44800000#32 := by
    rw [n_word]
    exact_mod_cast (by norm_num : (0 : ℝ) < 1024)
  simp only [hc, hd, hv, if_pos hpos]
  rfl

end Cert.Moe.Ref

end
-- ==== Proof.Equation.lean ====
/- The kernel's result and the reference's are the same array, on inputs whose gate scores are finite. -/
module

public import proofs.«01_k».proof.Proof.Chain
public import proofs.«01_k».proof.Proof.RefRow

@[expose] public section

set_option maxRecDepth 16384

noncomputable section

namespace Cert.Moe

open Idealize.ShloMosaic Idealize.ShloMosaic.TcCoe Idealize.SL.Sem
open Cert.KernelIdeal Cert.KernelIdeal.Gen

/-! ## An expert's term, from its eight pieces -/

/-- The hidden axis in eight pieces of 512, the bias with the first piece, each piece weighted by `c`: the whole sum and the bias, weighted. -/
theorem pieces (f : Fin 4096 → EReal) (B c : EReal) (h0 : 0 ≤ c) (ht : c ≠ ⊤) :
    ∑ k : Fin 8, ((if k.val = 0 then B * c else 0) + (∑ l : Fin 512, f ⟨k.val * 512 + l.val, by omega⟩) * c)
      = ((∑ i : Fin 4096, f i) + B) * c := by
  have hf : ∑ k : Fin 8, ∑ l : Fin 512, f ⟨k.val * 512 + l.val, by omega⟩ = ∑ i : Fin 4096, f i :=
    Fin.sum_mul_add_fin 8 512 f
  rw [Finset.sum_add_distrib, ← sum_mul_weight Finset.univ _ c h0 ht, hf, EReal.right_distrib_of_nonneg_of_ne_top h0 ht, add_comm]
  refine congrArg _ ?_
  simp [Fin.sum_univ_eight]

/-- The experts' weighted sum over the biases as the arguments hold them. -/
theorem experts_eq (X : FVec Ideal S4096x2048 .f32) (W1 : FVec Ideal S8x4096x2048 .f32) (b1 : FVec Ideal S8x4096 .f32)
    (W2 : FVec Ideal S8x1024x4096 .f32) (b2 : FVec Ideal S8x1024 .f32) (C : FVec Ideal S4096x8 .f32) (r : Fin 4096) (n : Fin 1024)
    (hC : ∀ e : Fin 8, 0 ≤ C (ix2 r e) ∧ C (ix2 r e) ≠ ⊤) :
    expertsAt X W1 (shapeCast S64x1x512 b1 shapeCasts_S8x4096_S64x1x512) W2 (shapeCast S8x1x1024 b2 shapeCasts_S8x1024_S8x1x1024) C r n
      = ∑ e : Fin 8, ((∑ i : Fin 4096, gelu ((∑ k : Fin 2048, X (ix2 r k) * W1 (ix3 e i k)) + b1 (ix2 e i)) * W2 (ix3 e n i))
          + b2 (ix2 e n)) * C (ix2 r e) := by
  have hb1 : ∀ (e k : Fin 8) (l : Fin 512), (shapeCast S64x1x512 b1 shapeCasts_S8x4096_S64x1x512) (ix3 ⟨e.val * 8 + k.val, by omega⟩ 0 l)
      = b1 (ix2 e ⟨k.val * 512 + l.val, by omega⟩) := by
    intro e k l
    pointwise
    have hk : (e.val * 8 + k.val) % 8 = k.val := by omega
    exact congrArg b1 (congrArg (ix2 e) (Fin.ext (by show (e.val * 8 + k.val) % 8 * 512 + l.val = k.val * 512 + l.val; rw [hk])))
  have hb2 : ∀ (e : Fin 8), (shapeCast S8x1x1024 b2 shapeCasts_S8x1024_S8x1x1024) (ix3 e 0 n) = b2 (ix2 e n) := by
    intro e
    pointwise
  unfold expertsAt
  simp only [hb1, hb2]
  exact Finset.sum_congr rfl fun e _ =>
    pieces (fun i => gelu ((∑ k : Fin 2048, X (ix2 r k) * W1 (ix3 e i k)) + b1 (ix2 e i)) * W2 (ix3 e n i)) _ _ (hC e).1 (hC e).2

/-! ## The two results -/

/-- The kernel's result at a token and a column: the layer norm of the token's row. -/
theorem kernelOut_at (m : (ℓ : Loc nD τ sig) → Buf (Elt Ideal) ℓ) (c : Dev nD) (b : Fin 2) (s : Fin 2048) (n : Fin 1024) :
    kernelOut m c (ix3 b s n) = normAt (yArr m c) (zArr m c) (gArr m c) (bArr m c) (Ref.token b s) n := by
  unfold kernelOut
  pointwise
  rfl

/-- Everything the reference's run reads is what the kernel's memory holds: argument by argument. -/
structure SameArgs (m : (ℓ : Loc nD τ sig) → Buf (Elt Ideal) ℓ) (c : Dev nD)
    (V0 : Valuation Cert.ReferenceIdeal.τ Cert.ReferenceIdeal.sig (Elt Ideal)) : Prop where
  x : Ref.x2 V0 = xArr m c
  wg : Ref.wg V0 = m ((c : Thread nD τ).loc main_arg1)
  w1 : Ref.w1 V0 = m ((c : Thread nD τ).loc main_arg2)
  b1 : Ref.b1 V0 = m ((c : Thread nD τ).loc main_arg3)
  w2 : Ref.w2 V0 = m ((c : Thread nD τ).loc main_arg4)
  b2 : Ref.b2 V0 = m ((c : Thread nD τ).loc main_arg5)
  ws1 : Ref.ws1 V0 = m ((c : Thread nD τ).loc main_arg6)
  bs1 : Ref.bs1 V0 = m ((c : Thread nD τ).loc main_arg7)
  ws2 : Ref.ws2 V0 = m ((c : Thread nD τ).loc main_arg8)
  bs2 : Ref.bs2 V0 = m ((c : Thread nD τ).loc main_arg9)
  lnw : Ref.lnw V0 = m ((c : Thread nD τ).loc main_arg10)
  lnb : Ref.lnb V0 = m ((c : Thread nD τ).loc main_arg11)

variable (m : (ℓ : Loc nD τ sig) → Buf (Elt Ideal) ℓ) (c : Dev nD)
  (V0 : Valuation Cert.ReferenceIdeal.τ Cert.ReferenceIdeal.sig (Elt Ideal))

/-- The kernel's weights of the experts are the reference's. -/
theorem gate_eq (h : SameArgs m c V0) (hs : ∀ r e, Ref.scores V0 r e ≠ ⊥ ∧ Ref.scores V0 r e ≠ ⊤) (r : Fin 4096) (e : Fin 8) :
    gateArr (xArr m c) (m ((c : Thread nD τ).loc main_arg1)) (ix2 r e) = Ref.v20 V0 (ix2 r e) := by
  rw [Ref.combine_at V0 r e fun x => (soft_bounds _ (hs r) x).1, ← h.x, ← h.wg]
  rfl

/-- The experts' weights are real numbers, none negative. -/
theorem weight_bounds (hs : ∀ r e, Ref.scores V0 r e ≠ ⊥ ∧ Ref.scores V0 r e ≠ ⊤) (r : Fin 4096) (e : Fin 8) :
    0 ≤ Ref.v20 V0 (ix2 r e) ∧ Ref.v20 V0 (ix2 r e) ≠ ⊤ := by
  have hb := soft_bounds _ (hs r)
  rw [Ref.combine_at V0 r e fun x => (hb x).1]
  exact pickTwo_bounds _ (fun x => (hb x).1) (fun x => (hb x).2) e

/-- The experts' weighted sum of the kernel is the reference's. -/
theorem y_eq (h : SameArgs m c V0) (hs : ∀ r e, Ref.scores V0 r e ≠ ⊥ ∧ Ref.scores V0 r e ≠ ⊤) (r : Fin 4096) (n : Fin 1024) :
    yArr m c (ix2 r n) = ∑ e : Fin 8, Ref.expert V0 e r n := by
  have hg : ∀ e : Fin 8, gateArr (xArr m c) (m ((c : Thread nD τ).loc main_arg1)) (ix2 r e) = Ref.v20 V0 (ix2 r e) :=
    gate_eq m c V0 h hs r
  refine (experts_eq (xArr m c) _ _ _ _ _ r n fun e => ?_).trans ?_
  · rw [hg]
    exact weight_bounds V0 hs r e
  · refine Finset.sum_congr rfl fun e _ => ?_
    rw [hg, ← h.x, ← h.w1, ← h.b1, ← h.w2, ← h.b2]
    rfl

/-- A vector of 1024 entries laid as one row, read back. -/
theorem row1024_at (v : FVec Ideal S1024 .f32) (n : Fin 1024) : (shapeCast S1x1024 v shapeCasts_S1024_S1x1024) (ix2 0 n) = v (ix1 n) := by
  pointwise

/-- A vector of 4096 entries laid as one row, read back. -/
theorem row4096_at (v : FVec Ideal S4096 .f32) (n : Fin 4096) : (shapeCast S1x4096 v shapeCasts_S4096_S1x4096) (ix2 0 n) = v (ix1 n) := by
  pointwise

/-- The shared expert over the biases as the arguments hold them. -/
theorem shared_eq (X : FVec Ideal S4096x2048 .f32) (W1 : FVec Ideal S4096x2048 .f32) (b1 : FVec Ideal S4096 .f32)
    (W2 : FVec Ideal S1024x4096 .f32) (b2 : FVec Ideal S1024 .f32) (r : Fin 4096) (n : Fin 1024) :
    sharedAt X W1 (shapeCast S1x4096 b1 shapeCasts_S4096_S1x4096) W2 (shapeCast S1x1024 b2 shapeCasts_S1024_S1x1024) r n
      = (∑ i : Fin 4096, ((∑ k : Fin 2048, X (ix2 r k) * W1 (ix2 i k)) + b1 (ix1 i)) * W2 (ix2 n i)) + b2 (ix1 n) := by
  unfold sharedAt
  simp only [row1024_at, row4096_at]
  exact add_comm _ _

/-- The shared expert of the kernel is the reference's. -/
theorem z_eq (h : SameArgs m c V0) (r : Fin 4096) (n : Fin 1024) : zArr m c (ix2 r n) = Ref.sharedRow V0 r n := by
  refine (shared_eq (xArr m c) _ _ _ _ r n).trans ?_
  rw [← h.x, ← h.ws1, ← h.bs1, ← h.ws2, ← h.bs2]
  rfl

/-- The two results agree at every token and column. -/
theorem result_at (h : SameArgs m c V0) (hs : ∀ r e, Ref.scores V0 r e ≠ ⊥ ∧ Ref.scores V0 r e ≠ ⊤)
    (b : Fin 2) (s : Fin 2048) (n : Fin 1024) : Ref.out V0 (ix3 b s n) = kernelOut m c (ix3 b s n) := by
  have hg : gArr m c (ix2 0 n) = Ref.lnw V0 (ix1 n) := by
    rw [h.lnw]
    exact row1024_at _ n
  have hb : bArr m c (ix2 0 n) = Ref.lnb V0 (ix1 n) := by
    rw [h.lnb]
    exact row1024_at _ n
  have hrow : (fun x : Fin 1024 => (yArr m c (ix2 (Ref.token b s) x) + zArr m c (ix2 (Ref.token b s) x)) * Ideal.ofBits .f32 0x3F000000#32)
      = Ref.rowAt V0 (Ref.token b s) := by
    funext x
    rw [y_eq m c V0 h hs, z_eq m c V0 h]
    rfl
  refine (Ref.out_at V0 b s n).trans (Eq.trans ?_ (kernelOut_at m c b s n).symm)
  unfold normAt
  rw [hg, hb, hrow]

/-- The two results are one array. -/
theorem results_eq (h : SameArgs m c V0) (hs : ∀ r e, Ref.scores V0 r e ≠ ⊥ ∧ Ref.scores V0 r e ≠ ⊤) :
    Ref.out V0 = kernelOut m c := by
  have hj : ∀ j : S2x2048x1024.Idx, Ref.out V0 j = kernelOut m c j := by
    intro j
    idx_vars j
    exact result_at m c V0 h hs _ _ _
  exact funext hj

end Cert.Moe

end
-- ==== Proof.KernelRun.lean ====
/- The kernel's run ends with `kernelOut` in its result buffer: the run of the main function, read at that one buffer. -/
module

public import proofs.«01_k».proof.Proof.Chain

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ) (ρ : Dev nD → PrngReg)

-- the launch's implicit arguments are found by unifying under plain definitions
set_option backward.isDefEq.respectTransparency.types false in
/-- Every run of the kernel's main function ends, without a fault, with `kernelOut` in the result buffer of every device. -/
theorem kernel_result : θ_run defs (onTc (τ := τ) (main (F := Ideal))) ⟨m, fun _ => 0, ρ⟩
    (fun r => ∀ c : Dev nD, r.2.mem ((c.tc : Thread nD τ).loc main_v11) = kernelOut m c) :=
  Pipeline.θ_run_regions_kit_sems (pcfgs (F := Ideal)) adm (pdats m ρ) () cellOf_inj emb₁ defs₀ 𝒱₀ L lv m ρ main (segs m ρ)
    (fun c _ => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun c => by
        dsimp only [Pipeline.Seg.post, hseg, Pipeline.HostSeg.ofOps]
        iintro ⟨Hbufs, Hreg, Howed⟩
        isplitl [Hbufs Hreg]
        · isplitl [Hbufs]; · iexact Hbufs
          iexact Hreg
        iexact Howed⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howed, -, Hreg, -⟩, -⟩
      imodintro
      isplitl [Hbufs]; · iexact Hbufs
      isplitl [Hreg]; · iexists _; iexact Hreg
      iexists ∅; iexact Howed)
    (QY := fun c s => ∀ b ∈ Pipeline.ucRefs τ sig, s.mem (((c : Thread nD τ)).1, b) = W9 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W9 m ρ c) s')
      isplitl [Hbufs] <;> iassumption)
    (hQ := fun s h _ => fun c => (h c _ (mem_uc main_v11 (by decide))).trans (out_W9 m ρ c))

end Cert.Moe

end
-- ==== Proof.Algebraic.lean ====
/- The two programs end with equal results, on inputs whose tokens and gate weights have no infinite entry. -/
module

public import proofs.«01_k».proof.Defs
public import proofs.«01_k».proof.Proof.Equation
public import proofs.«01_k».proof.Proof.Finite
public import proofs.«01_k».proof.Proof.KernelRun

@[expose] public section

set_option maxRecDepth 16384

noncomputable section

namespace Cert.Moe

open Idealize.ShloMosaic Idealize.ShloMosaic.TcCoe Idealize.SL.Sem
open Cert.KernelIdeal Cert.KernelIdeal.Gen

/-- Where the tokens and the gate's weights are real numbers, so is every gate score. -/
theorem scores_finite (m : (ℓ : Loc nD τ sig) → Buf (Elt Ideal) ℓ) (c : Dev nD)
    (V0 : Valuation Cert.ReferenceIdeal.τ Cert.ReferenceIdeal.sig (Elt Ideal)) (h : SameArgs m c V0)
    (x : FVec Ideal S2x2048x2048 .f32) (hx : xArr m c = shapeCast S4096x2048 x shapeCasts_S2x2048x2048_S4096x2048)
    (wg : FVec Ideal S8x2048 .f32) (hw : m ((c : Thread nD τ).loc main_arg1) = wg)
    (fx : ∀ i, x i ≠ ⊥ ∧ x i ≠ ⊤) (fw : ∀ i, wg i ≠ ⊥ ∧ wg i ≠ ⊤) (r : Fin 4096) (e : Fin 8) :
    Ref.scores V0 r e ≠ ⊥ ∧ Ref.scores V0 r e ≠ ⊤ := by
  unfold Ref.scores
  rw [h.x, h.wg, hx, hw]
  exact sum_mul_finite _ _ (fun k => fx _) (fun k => fw _)

/-- Equal arguments on a device give the reference's launch contents the kernel's arguments. -/
theorem sameArgs (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11)) :
    SameArgs m c (StableHlo.launchContents m' c) where
  x := congrArg (fun a : FVec Ideal S2x2048x2048 .f32 => shapeCast S4096x2048 a shapeCasts_S2x2048x2048_S4096x2048) h0
  wg := h1
  w1 := h2
  b1 := h3
  w2 := h4
  b2 := h5
  ws1 := h6
  bs1 := h7
  ws2 := h8
  bs2 := h9
  lnw := h10
  lnb := h11

/-- The value claim: under the precondition both programs end with the kernel's `kernelOut`. -/
theorem algebraic [Cert.Pre_finite_routing.Facts] : Cert.algebraic_KernelIdeal_ReferenceIdeal_pre_finite_routing := by
  intro m g m' g' hpre hargs
  refine ⟨fun c => kernelOut m c, ?_, ?_⟩
  · exact (θ_run defs _ _).mono (fun r h c => ⟨h.1 c, h.2 c⟩) (θ_run_and (kernel_result m g) (unchanged (F := Ideal) m g))
  · refine (θ_run Cert.ReferenceIdeal.defs _ _).mono (fun r h c => ⟨(h c).1.trans ?_, (h c).2⟩)
      (Cert.ReferenceIdeal.Value.run (F := Ideal) m' g')
    obtain ⟨h0, h1, h2, h3, h4, h5, h6, h7, h8, h9, h10, h11⟩ := hargs c
    have hsame := sameArgs m m' c h0 h1 h2 h3 h4 h5 h6 h7 h8 h9 h10 h11
    obtain ⟨fx, fw⟩ := finite_of_pre _ _ _ _ _ _ _ _ _ _ _ _ (hpre c)
    exact (Cert.ReferenceIdeal.Value.val6_main_v285 (StableHlo.launchContents m' c)).symm.trans
      (results_eq m c _ hsame (scores_finite m c _ hsame _ rfl _ rfl fx fw))

end Cert.Moe

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Finite
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the reference ends, keeps the arguments, and leaves every counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The three programs terminate, keep their arguments and leave every counter at zero; and, where the tokens and the gate's
    weights have no infinite entry, the kernel's result is the reference's. -/
theorem claim : Cert.Claim := ⟨Cert.Kernel.Gen.facts, Cert.KernelIdeal.Gen.facts, Cert.ReferenceIdeal.Gen.facts, Cert.Moe.preFacts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  trivial,
  haveI := Cert.Moe.preFacts
  Cert.Moe.algebraic⟩

end Cert.Proof

end
